-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal__bf16_numbers [hPre__bf16_numbers : Cert.Pre__bf16_numbers.Facts] (m : (ℓ : Loc Cert.KernelIdeal.nD Cert.KernelIdeal.τ Cert.KernelIdeal.sig) → Buf (Elt Ideal) ℓ) : Prop :=
  ∀ c : Dev Cert.KernelIdeal.nD,
    (Cert.Pre__bf16_numbers.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal__bf16_numbers [hPre__bf16_numbers : Cert.Pre__bf16_numbers.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre__bf16_numbers.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre__bf16_numbers [hKernelIdeal : Cert.KernelIdeal.Facts] [hPre__bf16_numbers : Cert.Pre__bf16_numbers.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal__bf16_numbers m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre__bf16_numbers [hReferenceIdeal : Cert.ReferenceIdeal.Facts] [hPre__bf16_numbers : Cert.Pre__bf16_numbers.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal__bf16_numbers m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre__bf16_numbers [hKernelIdeal : Cert.KernelIdeal.Facts] [hReferenceIdeal : Cert.ReferenceIdeal.Facts] [hPre__bf16_numbers : Cert.Pre__bf16_numbers.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal__bf16_numbers m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2_0) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre__bf16_numbers : Cert.Pre__bf16_numbers.Facts),
    quiescent_Kernel (hKernel := hKernel)
    ∧ quiescent_KernelIdeal (hKernelIdeal := hKernelIdeal)
    ∧ quiescent_KernelIdeal_pre__bf16_numbers (hKernelIdeal := hKernelIdeal) (hPre__bf16_numbers := hPre__bf16_numbers)
    ∧ quiescent_ReferenceIdeal (hReferenceIdeal := hReferenceIdeal)
    ∧ quiescent_ReferenceIdeal_pre__bf16_numbers (hReferenceIdeal := hReferenceIdeal) (hPre__bf16_numbers := hPre__bf16_numbers)
    ∧ preserves_Kernel_KernelIdeal
    ∧ algebraic_KernelIdeal_ReferenceIdeal_pre__bf16_numbers (hKernelIdeal := hKernelIdeal) (hReferenceIdeal := hReferenceIdeal) (hPre__bf16_numbers := hPre__bf16_numbers)
-- ==== Pre__bf16_numbers.lean ====
abbrev S2x128x2880 : Shape := ⟨3, ![2, 128, 2880]⟩
abbrev S2880x5760 : Shape := ⟨2, ![2880, 5760]⟩
abbrev S180x11520 : Shape := ⟨2, ![180, 11520]⟩
abbrev S_ : Shape := ⟨0, ![]⟩

class Facts : Prop where
  bitsLt_bf16_f32 : FTy.bits .bf16 < FTy.bits .f32
  bcast_S_S2x128x2880 : S_.BroadcastsInDim S2x128x2880 (![] : Fin 0 → Fin S2x128x2880.rank)
  reducesTo_S2x128x2880_S_d0_1_2 : S2x128x2880.ReducesTo [0, 1, 2] S_
  h_S_ : 0 < S_.numel

variable [Facts]

def fn {F : FTy → Type} [FloatOps F] (main_arg0 : FVec F S2x128x2880 .bf16) (main_arg1 : IVec S2880x5760 8) (main_arg2 : FVec F S180x11520 .fp8e4m3) (main_arg3 : FVec F S_ .f32) : IVec S_ 1 :=
  let main_v0 : FVec F S2x128x2880 .f32 := (extf .f32 · bitsLt_bf16_f32) main_arg0
  let main_v1 : FVec F S2x128x2880 .f32 := Host.absf main_v0
  let main_cst : FVec F S_ .f32 := constant S_ .f32 0x7F7F0000#32
  let main_v2 : FVec F S2x128x2880 .f32 := broadcastInDim S2x128x2880 ![] bcast_S_S2x128x2880 main_cst
  let main_v3 : IVec S2x128x2880 1 := cmpf .ole main_v1 main_v2
  let main_cst_0 : FVec F S_ .f32 := constant S_ .f32 0x7F800000#32
  let main_v4 : FVec F S2x128x2880 .f32 := broadcastInDim S2x128x2880 ![] bcast_S_S2x128x2880 main_cst_0
  let main_v5 : IVec S2x128x2880 1 := cmpf .oeq main_v1 main_v4
  let main_v6 : IVec S2x128x2880 1 := ori main_v3 main_v5
  let main_c : IVec S_ 1 := constantI S_ 1 1#1
  let main_v7 : IVec S_ 1 := (fun x v => Host.reduce IntOp.andi x v reducesTo_S2x128x2880_S_d0_1_2 h_S_) main_v6 main_c
  main_v7
-- ==== Kernel.lean ====
abbrev S2x128x2880 : Shape := ⟨3, ![2, 128, 2880]⟩
abbrev S2880x5760 : Shape := ⟨2, ![2880, 5760]⟩
abbrev S180x11520 : Shape := ⟨2, ![180, 11520]⟩
abbrev S_ : Shape := ⟨0, ![]⟩
abbrev S1 : Shape := ⟨1, ![1]⟩
abbrev S256x2880 : Shape := ⟨2, ![256, 2880]⟩
abbrev S256x11520 : Shape := ⟨2, ![256, 11520]⟩
abbrev S256x1 : Shape := ⟨2, ![256, 1]⟩
abbrev S2880x128 : Shape := ⟨2, ![2880, 128]⟩
abbrev S180x256 : Shape := ⟨2, ![180, 256]⟩
abbrev S256x256 : Shape := ⟨2, ![256, 256]⟩
abbrev S256 : Shape := ⟨1, ![256]⟩
abbrev S256x255 : Shape := ⟨2, ![256, 255]⟩
abbrev S720x128 : Shape := ⟨2, ![720, 128]⟩
abbrev S180x128 : Shape := ⟨2, ![180, 128]⟩
abbrev S180x128x1 : Shape := ⟨3, ![180, 128, 1]⟩
abbrev S180x1x128 : Shape := ⟨3, ![180, 1, 128]⟩
abbrev S180x16x128 : Shape := ⟨3, ![180, 16, 128]⟩
abbrev S2880x256 : Shape := ⟨2, ![2880, 256]⟩
abbrev S256x128 : Shape := ⟨2, ![256, 128]⟩
abbrev S256x128x1 : Shape := ⟨3, ![256, 128, 1]⟩

abbrev nBuf : Space → Nat
  | .hbm => 9
  | .vmem => 10
  | .smem => 1
  | _ => 0

abbrev bufTy : (tb : Table) → Fin (tcTables nBuf tb) → BufTy
  | .hbm, ⟨0, _⟩ => ⟨S2x128x2880, .bf16⟩
  | .hbm, ⟨1, _⟩ => ⟨S2880x5760, .i8⟩
  | .hbm, ⟨2, _⟩ => ⟨S180x11520, .fp8e4m3⟩
  | .hbm, ⟨3, _⟩ => ⟨S_, .f32⟩
  | .hbm, ⟨4, _⟩ => ⟨S1, .f32⟩
  | .hbm, ⟨5, _⟩ => ⟨S256x2880, .bf16⟩
  | .hbm, ⟨6, _⟩ => ⟨S256x11520, .bf16⟩
  | .hbm, ⟨7, _⟩ => ⟨S256x2880, .fp8e4m3⟩
  | .hbm, ⟨8, _⟩ => ⟨S256x1, .f32⟩
  | .local _ .vmem, ⟨0, _⟩ => ⟨S256x2880, .bf16⟩
  | .local _ .vmem, ⟨1, _⟩ => ⟨S2880x128, .i8⟩
  | .local _ .vmem, ⟨2, _⟩ => ⟨S2880x128, .i8⟩
  | .local _ .vmem, ⟨3, _⟩ => ⟨S180x256, .fp8e4m3⟩
  | .local _ .vmem, ⟨4, _⟩ => ⟨S180x256, .fp8e4m3⟩
  | .local _ .vmem, ⟨5, _⟩ => ⟨S256x256, .bf16⟩
  | .local _ .vmem, ⟨6, _⟩ => ⟨S256x256, .bf16⟩
  | .local _ .vmem, ⟨7, _⟩ => ⟨S256x2880, .fp8e4m3⟩
  | .local _ .vmem, ⟨8, _⟩ => ⟨S256x1, .f32⟩
  | .local _ .vmem, ⟨9, _⟩ => ⟨S256x2880, .bf16⟩
  | .local _ .smem, ⟨0, _⟩ => ⟨S1, .f32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![45], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x2880 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2880x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S180x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2880 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S2x128x2880 : Shape := ⟨3, ![2, 128, 2880]⟩
abbrev S2880x5760 : Shape := ⟨2, ![2880, 5760]⟩
abbrev S180x11520 : Shape := ⟨2, ![180, 11520]⟩
abbrev S_ : Shape := ⟨0, ![]⟩
abbrev S256x2880 : Shape := ⟨2, ![256, 2880]⟩
abbrev S1 : Shape := ⟨1, ![1]⟩
abbrev S256x11520 : Shape := ⟨2, ![256, 11520]⟩
abbrev S256x1 : Shape := ⟨2, ![256, 1]⟩
abbrev S256 : Shape := ⟨1, ![256]⟩
abbrev S180x5760x2 : Shape := ⟨3, ![180, 5760, 2]⟩
abbrev S180x5760x1 : Shape := ⟨3, ![180, 5760, 1]⟩
abbrev S180x5760 : Shape := ⟨2, ![180, 5760]⟩
abbrev S180x16x5760 : Shape := ⟨3, ![180, 16, 5760]⟩
abbrev S180x1x5760 : Shape := ⟨3, ![180, 1, 5760]⟩
abbrev S256x5760 : Shape := ⟨2, ![256, 5760]⟩
abbrev S256x5760x1 : Shape := ⟨3, ![256, 5760, 1]⟩
abbrev S256x5760x2 : Shape := ⟨3, ![256, 5760, 2]⟩

abbrev nBuf : Space → Nat
  | .hbm => 9
  | .vmem => 6
  | .smem => 1
  | _ => 0

abbrev bufTy : (tb : Table) → Fin (tcTables nBuf tb) → BufTy
  | .hbm, ⟨0, _⟩ => ⟨S2x128x2880, .bf16⟩
  | .hbm, ⟨1, _⟩ => ⟨S2880x5760, .i8⟩
  | .hbm, ⟨2, _⟩ => ⟨S180x11520, .fp8e4m3⟩
  | .hbm, ⟨3, _⟩ => ⟨S_, .f32⟩
  | .hbm, ⟨4, _⟩ => ⟨S256x2880, .bf16⟩
  | .hbm, ⟨5, _⟩ => ⟨S1, .f32⟩
  | .hbm, ⟨6, _⟩ => ⟨S256x11520, .bf16⟩
  | .hbm, ⟨7, _⟩ => ⟨S256x2880, .fp8e4m3⟩
  | .hbm, ⟨8, _⟩ => ⟨S256x1, .f32⟩
  | .local _ .vmem, ⟨0, _⟩ => ⟨S256x2880, .bf16⟩
  | .local _ .vmem, ⟨1, _⟩ => ⟨S2880x5760, .i8⟩
  | .local _ .vmem, ⟨2, _⟩ => ⟨S180x11520, .fp8e4m3⟩
  | .local _ .vmem, ⟨3, _⟩ => ⟨S256x11520, .bf16⟩
  | .local _ .vmem, ⟨4, _⟩ => ⟨S256x2880, .fp8e4m3⟩
  | .local _ .vmem, ⟨5, _⟩ => ⟨S256x1, .f32⟩
  | .local _ .smem, ⟨0, _⟩ => ⟨S1, .f32⟩
  | _, _ => ⟨S2x128x2880, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg3_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F] [Named F]

def κ : String → Option EReal := fun
  | "log_2" => some ((Real.log 2 : ℝ) : EReal)
  | _ => none

abbrev grid0 : Pipeline.Grid := .none

abbrev stage0_0 : Fin 1 → Memref sig .tc .vmem S256x2880 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2880x5760 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S180x11520 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x11520 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x2880 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.KRuns.lean ====
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdx
public import Idealize.ShloMosaic.Lib.Pipeline.ValueKit

/-! What the two runs of the kernel's body are stated over: the branch condition of its first block over the grid
points, the memrefs it is called with, and its results as functions of the blocks it reads. -/

@[expose] public section

set_option maxRecDepth 16384

noncomputable section

namespace Cert.KernelIdeal.Run

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 45 = 0 :=
  (fun t => by
    have ht : t.val < 45 := Nat.lt_of_lt_of_eq t.isLt N_0
    have e0 : (grid0.coords t 0).val = t.val / 1 % 45 := Pipeline.Grid.coords_val t 0 (by decide) rfl
    simp only [cond0_0, k0_cond1, e0]
    word_cmp
   : ∀ t : Fin grid0.N, cond0_0 (grid0.coords t) ↔ t.val % 45 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .smem S1 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x2880 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S2880x128 .i8 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S180x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x2880 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x1 .f32 := win0_6.stage (cfg0.slots t 6)
abbrev hs0_6 (t : Fin cfg0.N) : (ms0_6 t).IsWhole := hstage0_6 ((cfg0.slots t 6).cast nbuf0_6)
/-- The scratch operands: whole scoped buffers of the kernel's own, passed beside the windows. -/
abbrev scM0_0 : Memref sig .tc .vmem S256x2880 .bf16 := Memref.whole cc0_scratch0

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body computes, from the blocks it reads -/

/-- The fp8 codes of the activations `x`. -/
def codesOf (x : Vec F S256x2880 .bf16) : Vec F S256x2880 .fp8e4m3 := k0_pay7 (k0_pay5 x) k0_pay6
/-- The codes again as bf16 numbers, the left factor of the product. -/
def xbOf (x : Vec F S256x2880 .bf16) : Vec F S256x2880 .bf16 := k0_pay8 (k0_pay5 x) k0_pay6
/-- The low nibbles' half of the right factor: decoded weights times their scales. -/
def lowOf (w : Vec F S2880x128 .i8) (s : Vec F S180x256 .fp8e4m3) : FVec F S2880x128 .bf16 :=
  k0_pay17 (k0_pay10 w) (k0_pay13 s) (k0_pay14 s) k0_pay15 k0_pay16
/-- The high nibbles' scales, one row for each block of sixteen, broadcast over the block. -/
def highScaleOf (s : Vec F S180x256 .fp8e4m3) : FVec F S180x16x128 .f32 :=
  k0_pay18 (k0_pay13 s) (k0_pay14 s) (iota .tc S180x128 32 [1] iota_S180x128_d1_w32) k0_pay15
/-- The first 128 columns a point leaves of the product. -/
def yLeft (g : Elt F .f32) (w : Vec F S2880x128 .i8) (s : Vec F S180x256 .fp8e4m3) (xb : Vec F S256x2880 .bf16)
    (xs : Vec F S256x1 .f32) : FVec F S256x128 .bf16 :=
  k0_pay23 (k0_pay11 w) (lowOf w s) (highScaleOf s) xb xs g
/-- The other 128 columns. -/
def yRight (g : Elt F .f32) (w : Vec F S2880x128 .i8) (s : Vec F S180x256 .fp8e4m3) (xb : Vec F S256x2880 .bf16)
    (xs : Vec F S256x1 .f32) : FVec F S256x128 .bf16 :=
  k0_pay1 (k0_pay20 (k0_pay11 w) (lowOf w s) (highScaleOf s) xb xs g)
    (k0_pay21 (k0_pay11 w) (lowOf w s) (highScaleOf s) xb xs g) (iota .tc S256x128 32 [1] iota_S256x128_d1_w32) k0_pay22 1#32

/-- A load of the one cell of a one-element buffer reads it. -/
theorem ld_one (x : Vec F S1 .f32) (inb : ∀ a, (![0] : Fin 1 → Nat) a + (![1] : Fin 1 → Nat) a ≤ S1.size a) (k : (Rect.unit (s := S1) ![0] ![1] inb).shape.Idx) :
    View.ld x (Rect.unit ![0] ![1] inb) k = x (ValueIdx.ix1 0) := by
  show x _ = x _
  congr 1
  funext a
  match a with
  | ⟨0, _⟩ => exact Subsingleton.elim (α := Fin 1) _ _

/-- The two stores of a point into its block of the product: columns 0 to 127, then columns 128 to 255. -/
abbrev yPieces (a b : FVec F S256x128 .bf16) : List (View.Piece (Elt F) S256x256 .bf16) :=
  [⟨Rect.unit ![0, 128] ![256, 128] inb_S256x256_S256x128_0_128, b⟩,
   ⟨Rect.unit ![0, 0] ![256, 128] inb_S256x256_S256x128_0_0, a⟩]

/-- They cover the block. -/
theorem yPieces_cover (a b : FVec F S256x128 .bf16) (y : S256x256.Idx) : ∃ pc ∈ yPieces a b, y ∈ pc.1.set :=
  View.cover_of_tiledL (yPieces a b) ![256, 128] (by sl_kernel_rfl) y

/-- The block of the product a point leaves: the two halves side by side. -/
def yOf (g : Elt F .f32) (w : Vec F S2880x128 .i8) (s : Vec F S180x256 .fp8e4m3) (xb : Vec F S256x2880 .bf16)
    (xs : Vec F S256x1 .f32) : Vec F S256x256 .bf16 :=
  View.canon (yPieces (yLeft g w s xb xs) (yRight g w s xb xs))

end Cert.KernelIdeal.Run

end
-- ==== Proof.KRunA.lean ====
module

public import proofs.«01_k».proof.Proof.KRuns

@[expose] public section

set_option maxRecDepth 16384

noncomputable section

namespace Cert.KernelIdeal.Run

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body at the first point: it quantises the activations, leaving the codes, the scales and the codes as bf16
    numbers, and computes that point's columns of the product from them. -/
theorem kernelRun0_A (c : Dev nD) (i : grid0.Coords) (arg1 : Memref sig .tc .smem S1 .f32) (harg1 : arg1.IsWhole) (arg2 : Memref sig .tc .vmem S256x2880 .bf16) (harg2 : arg2.IsWhole) (arg3 : Memref sig .tc .vmem S2880x128 .i8) (harg3 : arg3.IsWhole) (arg4 : Memref sig .tc .vmem S180x256 .fp8e4m3) (harg4 : arg4.IsWhole) (arg5 : Memref sig .tc .vmem S256x256 .bf16) (harg5 : arg5.IsWhole) (arg6 : Memref sig .tc .vmem S256x2880 .fp8e4m3) (harg6 : arg6.IsWhole) (arg7 : Memref sig .tc .vmem S256x1 .f32) (harg7 : arg7.IsWhole) (arg8 : Memref sig .tc .vmem S256x2880 .bf16) (harg8 : arg8.IsWhole) (hc0 : cond0_0 i)
    (x0 : Vec F S1 .f32) (x1 : Vec F S256x2880 .bf16) (x2 : Vec F S2880x128 .i8) (x3 : Vec F S180x256 .fp8e4m3) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3
                ∗ owns (c : Thread nD τ) arg5 fullShare (yOf (x0 (ValueIdx.ix1 0)) x2 x3 (xbOf x1) (k0_pay4 x1)) ∗ owns (c : Thread nD τ) arg6 fullShare (codesOf x1)
                ∗ owns (c : Thread nD τ) arg7 fullShare (k0_pay4 x1) ∗ owns (c : Thread nD τ) arg8 fullShare (xbOf x1)) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro; rw [View.read_writes_eq_canon _ _ _ (yPieces_cover _ _)]; frame_out
      rw [ld_one]; rfl
    isplitl [H5]
    · iexists _; isplitr; swap; · iexact H5
      ipureintro; rw [View.read_writes_eq_canon _ _ _ (View.cover_of_tiledL _ S256x2880.size (by sl_kernel_rfl))]; frame_out
      rfl
    isplitl [H6]
    · iexists _; isplitr; swap; · iexact H6
      ipureintro; rw [View.read_writes_eq_canon _ _ _ (View.cover_of_tiledL _ S256x1.size (by sl_kernel_rfl))]; frame_out
    iexists _; isplitr; swap; · iexact HS0
    ipureintro; rw [View.read_writes_eq_canon _ _ _ (View.cover_of_tiledL _ S256x2880.size (by sl_kernel_rfl))]; frame_out
    rfl

end Cert.KernelIdeal.Run

end
-- ==== Proof.KRunB.lean ====
module

public import proofs.«01_k».proof.Proof.KRunA

@[expose] public section

set_option maxRecDepth 16384

noncomputable section

namespace Cert.KernelIdeal.Run

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- (the run's proof term is large: checking it walks past the default budget)
set_option maxHeartbeats 1000000 in
/-- The body at any later point: the codes, the scales and the bf16 codes stay as they were, and the point's columns of
    the product are computed from them. -/
theorem kernelRun0_B (c : Dev nD) (i : grid0.Coords) (arg1 : Memref sig .tc .smem S1 .f32) (harg1 : arg1.IsWhole) (arg2 : Memref sig .tc .vmem S256x2880 .bf16) (harg2 : arg2.IsWhole) (arg3 : Memref sig .tc .vmem S2880x128 .i8) (harg3 : arg3.IsWhole) (arg4 : Memref sig .tc .vmem S180x256 .fp8e4m3) (harg4 : arg4.IsWhole) (arg5 : Memref sig .tc .vmem S256x256 .bf16) (harg5 : arg5.IsWhole) (arg6 : Memref sig .tc .vmem S256x2880 .fp8e4m3) (harg6 : arg6.IsWhole) (arg7 : Memref sig .tc .vmem S256x1 .f32) (harg7 : arg7.IsWhole) (arg8 : Memref sig .tc .vmem S256x2880 .bf16) (harg8 : arg8.IsWhole) (hc0 : ¬cond0_0 i)
    (x0 : Vec F S1 .f32) (x1 : Vec F S256x2880 .bf16) (x2 : Vec F S2880x128 .i8) (x3 : Vec F S180x256 .fp8e4m3) (x5 : Vec F S256x2880 .fp8e4m3) (x6 : Vec F S256x1 .f32) (xb : Vec F S256x2880 .bf16) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare x5 ∗ owns (c : Thread nD τ) arg7 fullShare x6 ∗ owns (c : Thread nD τ) arg8 fullShare xb
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (yOf (x0 (ValueIdx.ix1 0)) x2 x3 xb x6) ∗ owns (c : Thread nD τ) arg6 fullShare x5 ∗ owns (c : Thread nD τ) arg7 fullShare x6 ∗ owns (c : Thread nD τ) arg8 fullShare xb) -∗ K ⟨⟩))
          ⊢ wp frame (wpE (defs₀ (F := F)) Variants.none c none) E (cc0__body i arg1 harg1 arg2 harg2 arg3 harg3 arg4 harg4 arg5 harg5 arg6 harg6 arg7 harg7 arg8 harg8) K := by
    intro E K
    simp only [cc0__body_eq_skeleton]; unfold cc0__body_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%f5, %hf5, H5⟩, ⟨%f6, %hf6, H6⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hf5; obtain rfl := harg7.eq_unread hf6; obtain rfl := harg8.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro; rw [View.read_writes_eq_canon _ _ _ (yPieces_cover _ _)]; frame_out
      rw [ld_one]; rfl
    isplitl [H5]
    · iexists _; isplitr; · ipureintro; exact harg6.read_unread _
      iexact H5
    isplitl [H6]
    · iexists _; isplitr; · ipureintro; exact harg7.read_unread _
      iexact H6
    iexists _; isplitr; · ipureintro; exact harg8.read_unread _
    iexact HS0

end Cert.KernelIdeal.Run

end
-- ==== Proof.KFrame.lean ====
module

public import proofs.«01_k».proof.Proof.KRunB

/-! The kernel's run, its results named: the codes, the scales and the scratch are computed at the first grid point and
kept at every later one; each point leaves its block of columns of the product. -/

@[expose] public section

set_option maxRecDepth 16384

noncomputable section

namespace Cert.KernelIdeal.Run

open Cert.KernelIdeal Cert.KernelIdeal.Gen Idealize.ShloMosaic.ValueIdx
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The activations, as the kernel is handed them. -/
abbrev xIn (c : Dev nD) : Vec F S256x2880 .bf16 := iblk m c 1 ⟨0, by decide⟩
/-- The activations' window shows the same block at every point. -/
theorem iblk_x (c : Dev nD) (t : Fin cfg0.N) : iblk m c 1 t = xIn m c := rfl

/-- The block of the product left at point `t`. -/
abbrev yAt (c : Dev nD) (t : Fin cfg0.N) : Vec F S256x256 .bf16 :=
  yOf ((iblk m c 0 t : Vec F S1 .f32) (ValueIdx.ix1 0)) (iblk m c 2 t) (iblk m c 3 t) (xbOf (xIn m c)) (k0_pay4 (xIn m c))

/-- What the kernel holds beside its windows before point `t`: nothing known before the first, the bf16 codes afterwards. -/
def scratchAt (c : Dev nD) (n : ℕ) : sProp 𝕄 :=
  if n = 0 then Pipeline.ΦA spec0 c
  else iprop(owns (c : Thread nD τ) scM0_0 fullShare (xbOf (xIn m c)) ∗ (∃ r, prngReg c r))

theorem scratchAt_later (c : Dev nD) {n : ℕ} (h : n ≠ 0) :
    scratchAt m c n = iprop(owns (c : Thread nD τ) scM0_0 fullShare (xbOf (xIn m c)) ∗ (∃ r, prngReg c r)) := if_neg h

/-- The proof data of the one pipeline: every input's buffer at its block, the three results' at what the kernel computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => yAt m c t
    | ⟨5, _⟩ => codesOf (xIn m c)
    | ⟨6, _⟩ => k0_pay4 (xIn m c)
  Φ t := scratchAt m c t.val
  q _ := fullShare
  owed _ := 0

/-- Its arrays are the arrays as the pipeline finds them. -/
theorem A_eq (c : Dev nD) (w : Fin cfg0.W) : (dats m 0 c).A w = V m c (Pipeline.arrRef spec0 w) := by
  dsimp only [dats]

/-- What the body leaves in each window's buffer. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = yAt m c t := by dsimp only [dats]
theorem after0_5 (c : Dev nD) (t : Fin cfg0.N) : (dats m 0 c).after 5 t = codesOf (xIn m c) := by dsimp only [dats]
theorem after0_6 (c : Dev nD) (t : Fin cfg0.N) : (dats m 0 c).after 6 t = k0_pay4 (xIn m c) := by dsimp only [dats]

/-- Each input's buffer holds its block when the body runs. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-- A result stored at the first point only, at contents `X`: its buffer holds `X` when the body runs at a later one. -/
theorem before_held {c : Dev nD} (dat : Dat τ (Elt F) Unit ℕ (UR sig nD τ) ℕ cfg0 c) (w : Fin cfg0.W)
    (hw : (cfg0.win w).isOut = true) (hclip : ∀ (i : cfg0.grid.Coords) a, (cfg0.win w).clip i a = none)
    (hfl : ∀ t : Fin cfg0.N, (cfg0.win w).flush t = true ↔ t.val % 45 = 44)
    (hid : ∀ t : Fin cfg0.N, cfg0.idle w (grid0.coords t) = !(k0_cond1 (grid0.coords t) == 1#1))
    (X : (cfg0.win w).block.Idx → Elt F (cfg0.win w).elt) (hX : ∀ t, dat.after w t = X) (d) :
    ∀ (n : ℕ) (hn : n < cfg0.N), n ≠ 0 → dat.before w ⟨n, hn⟩ d = X := by
  intro n
  induction n with
  | zero => intro _ h; exact absurd rfl h
  | succ k ih =>
    intro hn _
    have hN : k + 1 < 45 := Nat.lt_of_lt_of_eq hn N_0
    have hk : k < cfg0.N := Nat.lt_of_succ_lt hn
    have e : (⟨k + 1 - 1, Nat.lt_of_le_of_lt (Nat.sub_le _ _) hn⟩ : Fin cfg0.N) = ⟨k, hk⟩ := rfl
    rw [dat.before_of_pos w ⟨k + 1, hn⟩ (Nat.succ_ne_zero k) ((cfg0.win w).fetch_out hw _), e]
    rw [if_neg (fun h => by have := (hfl ⟨k, hk⟩).mp h; dsimp only at this; omega)]
    unfold Dat.left
    by_cases h0 : k = 0
    · have hc : cond0_0 (grid0.coords ⟨k, hk⟩) := (hcond0_0 ⟨k, hk⟩).mpr (by dsimp only; omega)
      have hi : cfg0.idle w (cfg0.grid.coords ⟨k, hk⟩) = false := by
        rw [hid]; rw [show k0_cond1 (grid0.coords ⟨k, hk⟩) = 1#1 from hc]; rfl
      rw [hi]
      dsimp only
      unfold Dat.kept
      rw [Pipeline.fill_of_clip_none w _ (hclip _) d (dat.after w _), Window.fill_cut, hX]
    · have hc : ¬ cond0_0 (grid0.coords ⟨k, hk⟩) := fun h => h0 (by have := (hcond0_0 ⟨k, hk⟩).mp h; dsimp only at this; omega)
      have hi : cfg0.idle w (cfg0.grid.coords ⟨k, hk⟩) = true := by
        rw [hid]; simpa using hc
      rw [hi]
      exact ih hk h0

/-- What the body's obligation asks of such a result's buffer, off its contents `X`. -/
theorem leaves_held {c : Dev nD} (dat : Dat τ (Elt F) Unit ℕ (UR sig nD τ) ℕ cfg0 c) (w : Fin cfg0.W) (t : Fin cfg0.N)
    (X : (cfg0.win w).block.Idx → Elt F (cfg0.win w).elt) (hX : dat.after w t = X)
    (hb : cfg0.idle w (grid0.coords t) = true → ∀ d, dat.before w t d = X) :
    owns (c : Thread nD τ) ((cfg0.win w).stage (cfg0.slots t w)) fullShare X
      ⊢ (match cfg0.idle w (cfg0.grid.coords t) with
          | true =>
            match (cfg0.win w).flush t with
            | false => iprop(∃ d, owns (c : Thread nD τ) ((cfg0.win w).stage (cfg0.slots t w)) fullShare (dat.before w t d))
            | true => owns (c : Thread nD τ) ((cfg0.win w).stage (cfg0.slots t w)) fullShare (dat.after w t)
          | false => owns (c : Thread nD τ) ((cfg0.win w).stage (cfg0.slots t w)) fullShare (dat.after w t) : sProp 𝕄) := by
  rw [hX]
  cases hi : cfg0.idle w (cfg0.grid.coords t)
  · exact .rfl
  · cases (cfg0.win w).flush t
    · dsimp only
      iintro H
      iexists X
      rw [hb hi X]
      iexact H
    · exact .rfl

/-! ## The body obligation -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare (iblk m c 0 t)
    ∗ owns (c : Thread nD τ) (ms0_1 t) fullShare (iblk m c 1 t)
    ∗ owns (c : Thread nD τ) (ms0_2 t) fullShare (iblk m c 2 t)
    ∗ owns (c : Thread nD τ) (ms0_3 t) fullShare (iblk m c 3 t)
    ∗ owns (c : Thread nD τ) (ms0_4 t) fullShare (yAt m c t)
    ∗ owns (c : Thread nD τ) (ms0_5 t) fullShare (codesOf (xIn m c))
    ∗ owns (c : Thread nD τ) (ms0_6 t) fullShare (k0_pay4 (xIn m c)))

theorem before0_5 (c : Dev nD) (t : Fin cfg0.N) (ht : t.val ≠ 0) (d) : (dats m 0 c).before 5 t d = codesOf (xIn m c) :=
  before_held (dats m 0 c) 5 rfl (fun _ _ => rfl) flush0_5 (fun _ => rfl) _ (after0_5 m c) d t.val t.isLt ht
theorem before0_6 (c : Dev nD) (t : Fin cfg0.N) (ht : t.val ≠ 0) (d) : (dats m 0 c).before 6 t d = k0_pay4 (xIn m c) :=
  before_held (dats m 0 c) 6 rfl (fun _ _ => rfl) flush0_6 (fun _ => rfl) _ (after0_6 m c) d t.val t.isLt ht

/-- The body at any point. -/
theorem sound_body (c : Dev nD) (t : Fin cfg0.N) :
    bodyPre m c t ⊢ wp frame (wpE (defs₀ (F := F)) Variants.none c none) Set.univ (bodyAt0 t) (fun _ => bodyPost m c t) := by
  have ht : t.val < 45 := Nat.lt_of_lt_of_eq t.isLt N_0
  unfold bodyPre bodyPost bodyAt0
  simp only [before0_0, before0_1, before0_2, before0_3]
  rw [show (dats m 0 c).Φ t.succ = iprop(owns (c : Thread nD τ) scM0_0 fullShare (xbOf (xIn m c)) ∗ (∃ r, prngReg c r)) from scratchAt_later m c (n := t.val + 1) (Nat.succ_ne_zero t.val),
    show (dats m 0 c).owesAt () t.succ = (dats m 0 c).owesAt () t.castSucc from rfl]
  by_cases h0 : t.val = 0
  · rw [show (dats m 0 c).Φ t.castSucc = Pipeline.ΦA spec0 c from if_pos h0, PhiA0_eq]
    iintro ⟨⟨⟨%ds, HS⟩, Hr⟩, Ho, ⟨%d0, H0⟩, ⟨%d1, H1⟩, ⟨%d2, H2⟩, ⟨%d3, H3⟩, ⟨%d4, H4⟩, ⟨%d5, H5⟩, ⟨%d6, H6⟩⟩
    iapply (kernelRun0_A c _ _ _ _ _ _ _ _ _ _ _ _ _ _ _ _ _ ((hcond0_0 t).mpr (by omega)) (iblk m c 0 t) (iblk m c 1 t) (iblk m c 2 t) (iblk m c 3 t) Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS]; · iexists _; iexact HS
    iintro ⟨H0, H1, H2, H3, H4, H5, H6, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · rw [show (dats m 0 c).Φ t.castSucc = iprop(owns (c : Thread nD τ) scM0_0 fullShare (xbOf (xIn m c)) ∗ (∃ r, prngReg c r)) from scratchAt_later m c h0]
    simp only [before0_5 m c t h0, before0_6 m c t h0]
    iintro ⟨⟨HS, Hr⟩, Ho, ⟨%d0, H0⟩, ⟨%d1, H1⟩, ⟨%d2, H2⟩, ⟨%d3, H3⟩, ⟨%d4, H4⟩, ⟨%d5, H5⟩, ⟨%d6, H6⟩⟩
    iapply (kernelRun0_B c _ _ _ _ _ _ _ _ _ _ _ _ _ _ _ _ _ (fun h => h0 (by have := (hcond0_0 t).mp h; omega)) (iblk m c 0 t) (iblk m c 1 t) (iblk m c 2 t) (iblk m c 3 t) (codesOf (xIn m c)) (k0_pay4 (xIn m c)) (xbOf (xIn m c)) Set.univ _)
    isplitl [H0]; · iexact H0
    isplitl [H1]; · iexact H1
    isplitl [H2]; · iexact H2
    isplitl [H3]; · iexact H3
    isplitl [H4]; · iexists _; iexact H4
    isplitl [H5]; · iexact H5
    isplitl [H6]; · iexact H6
    isplitl [HS]; · iexact HS
    iintro ⟨H0, H1, H2, H3, H4, H5, H6, HS⟩
    isplitl [HS Hr]
    · isplitl [HS]; · iexact HS
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

/-- The body table's row at point `t` is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  have idleNe (h : (!(k0_cond1 (grid0.coords t) == 1#1)) = true) : t.val ≠ 0 := fun h0 => by
    have hc : k0_cond1 (grid0.coords t) = 1#1 := (hcond0_0 t).mpr (by rw [h0])
    rw [hc] at h; exact absurd h (by decide)
  iintro ⟨HΦ, Ho, H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · iapply (leaves_held (dats m 0 c) 5 t _ (after0_5 m c t) (fun h d => before0_5 m c t (idleNe h) d)); iexact H5
  iapply (leaves_held (dats m 0 c) 6 t _ (after0_6 m c t) (fun h d => before0_6 m c t (idleNe h) d)); iexact H6

/-! ## The run and the frame -/

-- the run theorem's implicit arguments are found by unifying its conclusion with this one, which takes unfolding plain
-- definitions in a metavariable's type
set_option backward.isDefEq.respectTransparency.types false in
/-- The launch: every array of the pipeline ends at what the proof data gives, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => .rfl)
    (hout := fun c => by
      show scratchAt m c cfg0.N ⊢ Pipeline.ΦA spec0 c
      rw [scratchAt_later m c (by show grid0.N ≠ 0; rw [N_0]; decide)]
      rw [PhiA0_eq]
      iintro ⟨HS, Hr⟩
      isplitl [HS]; · iexists _; iexact HS
      iexact Hr)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The kernel runs, leaves its arguments as they were and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_main m ρ)) ((θ_run defs _ _).mono (fun _ h => h.2) (run_main_quiescent m ρ))

end Cert.KernelIdeal.Run

end
-- ==== Proof.KernelFrame.lean ====
module

public import proofs.«01_k».proof.Defs
public import proofs.«01_k».proof.Proof.Gen.Kernel
public import proofs.«01_k».proof.Proof.KFrame

/-! The printed kernel and its idealization are one program: the frame of the one is the frame of the other. -/

@[expose] public section

set_option maxRecDepth 16384

noncomputable section

namespace Cert.KernelFrame

open Idealize.ShloMosaic Idealize.ShloMosaic.TcCoe Idealize.SL Idealize.SL.Sem

variable {F : FTy → Type} [FloatOps F]

/-- The bodies are the same, -/
theorem defs₀_eq : @Cert.Kernel.defs₀ F _ _ = @Cert.KernelIdeal.defs₀ F _ _ := by
  unfold Cert.Kernel.defs₀ Cert.KernelIdeal.defs₀
  congr 1
  funext l a
  match l, a with
  | 0, (t, s) =>
    dsimp only
    unfold Cert.Kernel.cc0__body Cert.KernelIdeal.cc0__body
    rfl

/-- and so are the pipelines that call them, -/
theorem defs_eq : @Cert.Kernel.defs F _ _ = @Cert.KernelIdeal.defs F _ _ := by
  unfold Cert.Kernel.defs Cert.KernelIdeal.defs
  exact congrArg (Pipeline.defs (Cert.KernelIdeal.pcfgs (F := F))) defs₀_eq

/-- and the host's program. -/
theorem main_eq : Cert.Kernel.main (F := F) = Cert.KernelIdeal.main (F := F) := rfl

/-- The printed kernel runs, leaves its arguments as they were and every semaphore counter at zero. -/
theorem quiescent : Cert.quiescent_Kernel := by
  intro m g _
  rw [defs_eq, main_eq]
  exact Cert.KernelIdeal.Run.frame m g

end Cert.KernelFrame

end
-- ==== Proof.Weights.lean ====
module

public import proofs.«01_k».proof.Proof.KRuns
public import proofs.«01_k».proof.Proof.Gen.ReferenceIdeal.Skeleton
public import Idealize.ShloMosaic.Lib.BitcastFour
public import Idealize.ShloMosaic.Lib.Pointwise

/-! The weights. Each byte holds two E2M1 numbers; the kernel places a number's four bits in an fp8 e4m3 word, four bytes of
a column at a time, and the number comes out divided by 64, which the block scales make up for. The reference builds the
bf16 word of the number itself. -/

@[expose] public section

set_option maxRecDepth 16384

noncomputable section

namespace Cert.Weights

open Idealize.ShloMosaic Idealize.ShloMosaic.TcCoe

/-- The fp8 e4m3 word the kernel makes of an E2M1 number: the sign to the top, the other three bits above two zeros. -/
def code8 (n : ℕ) : BitVec 8 := BitVec.ofNat 8 (n / 8 * 128 + n % 8 * 4)

/-- The bf16 word the reference makes of an E2M1 number. -/
def code16 (a : BitVec 32) : BitVec 16 :=
  BitVec.setWidth 16 (IntOp.ori
    (Scalar.select (IntOp.cmpi .eq (IntOp.andi a 6#32) 0#32) (IntOp.muli (IntOp.andi a 1#32) 16128#32)
      (IntOp.addi (IntOp.shli ArithUnit.vector (IntOp.andi a 7#32) 6#32) 16128#32))
    (IntOp.shli ArithUnit.vector (IntOp.andi a 8#32) 12#32))

/-- The number in the low (`o = 0`) or high (`o = 1`) half of a byte. -/
def nibble (b : BitVec 8) (o : ℕ) : ℕ := if o = 0 then b.toNat % 16 else b.toNat / 16

/-- The value of the number in a half of a byte, as the reference decodes it. -/
def weight (b : BitVec 8) (o : ℕ) : EReal := Ideal.ofBits .bf16 (code16 (BitVec.ofNat 32 (nibble b o)))

/-- The parts of the fp8 word. -/
theorem code8_parts : ∀ n : Fin 16, ((code8 n.val).extractLsb' 7 1 == 1#1) = decide (8 ≤ n.val) ∧
    ((code8 n.val).extractLsb' 3 4).toNat = n.val % 8 / 2 ∧ ((code8 n.val).extractLsb' 0 3).toNat = n.val % 2 * 4 := by decide +kernel

/-- The parts of the bf16 word. -/
theorem code16_parts : ∀ n : Fin 16, ((code16 (BitVec.ofNat 32 n.val)).extractLsb' (8 + 7) 1 == 1#1) = decide (8 ≤ n.val) ∧
    ((code16 (BitVec.ofNat 32 n.val)).extractLsb' 7 8).toNat = (if n.val % 8 = 0 then 0 else 126 + n.val % 8 / 2) ∧
    ((code16 (BitVec.ofNat 32 n.val)).extractLsb' 0 7).toNat = (if n.val % 8 < 2 then 0 else n.val % 2 * 64) := by decide +kernel

/-- The two words of one number: the fp8 one denotes a 64th of the bf16 one. -/
theorem code_value (n : Fin 16) : Ideal.ofBits .fp8e4m3 (code8 n.val) * ((64 : ℝ) : EReal) = Ideal.ofBits .bf16 (code16 (BitVec.ofNat 32 n.val)) := by
  obtain ⟨a1, a2, a3⟩ := code8_parts n
  obtain ⟨b1, b2, b3⟩ := code16_parts n
  show Ideal.e4m3fn (code8 n.val) * _ = Ideal.ieee 8 7 (code16 (BitVec.ofNat 32 n.val))
  unfold Ideal.e4m3fn Ideal.ieee
  rw [a1, a2, a3, b1, b2, b3]
  clear a1 a2 a3 b1 b2 b3
  obtain ⟨n, hn⟩ := n
  interval_cases n
  all_goals norm_num [-EReal.coe_mul, ← EReal.coe_mul]

/-- Bit `i` of byte `p` of a column of words is bit `8 k + i` of the word in row `a`, `p` being `4 a + k`. -/
theorem byte_of_word {R r n : ℕ} (x : (⟨2, ![r, n]⟩ : Shape).Idx → BitVec 32) (h : (⟨2, ![r, n]⟩ : Shape).Bitcasts 32 ⟨2, ![R, n]⟩ 8)
    (p : Fin R) (l : Fin n) (a : Fin r) (k : ℕ) (hk : k < 4) (hp : p.val = 4 * a.val + k) (i : ℕ) (hi : i < 8) :
    (bitcast ⟨2, ![R, n]⟩ 8 x h (ix2 p l)).getLsbD i = (x (ix2 a l)).getLsbD (8 * k + i) := by
  rw [bitcast_getLsbD x h _ i hi (by decide)]
  have hrow : (⟨2, ![R, n]⟩ : Shape).row (ix2 p l) = p.val := rfl
  have e1 : ((⟨2, ![R, n]⟩ : Shape).row (ix2 p l) * 8 + i) / 32 = a.val := by rw [hrow]; omega
  have e2 : ((⟨2, ![R, n]⟩ : Shape).row (ix2 p l) * 8 + i) % 32 = 8 * k + i := by rw [hrow]; omega
  rw [e2]
  congr 2
  funext c
  match c with
  | ⟨0, _⟩ => exact Fin.ext ((h.srcIdx_row _ _ _ ⟨0, Nat.zero_lt_two⟩ rfl).trans e1)
  | ⟨1, _⟩ => exact Fin.ext (h.srcIdx_other _ _ _ ⟨1, Nat.one_lt_two⟩ (by show ¬ 1 + 2 = 2; omega))

/-- Byte `k` of a column's word is the byte in row `4 a + k`. -/
theorem word_of_bytes {R r n : ℕ} (x : (⟨2, ![R, n]⟩ : Shape).Idx → BitVec 8) (h : (⟨2, ![R, n]⟩ : Shape).Bitcasts 8 ⟨2, ![r, n]⟩ 32)
    (p : Fin R) (l : Fin n) (a : Fin r) (k : ℕ) (hk : k < 4) (hp : p.val = 4 * a.val + k) (i : ℕ) (hi : i < 8) :
    (bitcast ⟨2, ![r, n]⟩ 32 x h (ix2 a l)).getLsbD (8 * k + i) = (x (ix2 p l)).getLsbD i := by
  have := bitcast_8_32_getLsbD_ix2 x h a l (8 * k + i) (by omega) p (by omega)
  rw [show (8 * k + i) % 8 = i by omega] at this
  exact this

/-- The low halves of four bytes, each placed in an fp8 word. -/
def lowWord (w : BitVec 32) : BitVec 32 :=
  IntOp.ori (IntOp.andi (IntOp.shli ArithUnit.vector w 4#32) 2155905152#32) (IntOp.andi (IntOp.shli ArithUnit.vector w 2#32) 471604252#32)
/-- The high halves of four bytes, each placed in an fp8 word. -/
def highWord (w : BitVec 32) : BitVec 32 :=
  IntOp.ori (IntOp.andi w 2155905152#32) (IntOp.andi (IntOp.shrui ArithUnit.vector w 2#32) 471604252#32)

/-- The masks' bits. -/
theorem masks : ∀ (k : Fin 4) (i : Fin 8), (2155905152#32).getLsbD (8 * k.val + i.val) = (128#8).getLsbD i.val ∧
    (471604252#32).getLsbD (8 * k.val + i.val) = (28#8).getLsbD i.val := by decide

/-- The fp8 words of the two halves, bit by bit. -/
theorem code8_low : ∀ b : BitVec 8, (b <<< 4 &&& 128#8) ||| (b <<< 2 &&& 28#8) = code8 (nibble b 0) := by decide +kernel
theorem code8_high : ∀ b : BitVec 8, (b &&& 128#8) ||| (b >>> 2 &&& 28#8) = code8 (nibble b 1) := by decide +kernel

/-- A byte of the low halves' word. -/
theorem lowWord_byte (w : BitVec 32) (b : BitVec 8) (k : ℕ) (hk : k < 4) (hb : ∀ i < 8, w.getLsbD (8 * k + i) = b.getLsbD i) (i : ℕ) (hi : i < 8) :
    (lowWord w).getLsbD (8 * k + i) = (code8 (nibble b 0)).getLsbD i := by
  rw [← code8_low]
  show ((w <<< 4 &&& 2155905152#32) ||| (w <<< 2 &&& 471604252#32)).getLsbD (8 * k + i) = _
  obtain ⟨m1, m2⟩ := masks ⟨k, hk⟩ ⟨i, hi⟩
  simp only [] at m1 m2
  simp only [BitVec.getLsbD_or, BitVec.getLsbD_and, m1, m2]
  have h4 : ∀ s : ℕ, s ≤ i → (w <<< s).getLsbD (8 * k + i) = (b <<< s).getLsbD i := fun s hs => by
    rw [BitVec.getLsbD_shiftLeft, BitVec.getLsbD_shiftLeft, show 8 * k + i - s = 8 * k + (i - s) by omega, hb _ (by omega)]
    simp only [show 8 * k + i < 32 by omega, hi, show ¬ 8 * k + i < s by omega, show ¬ i < s by omega, decide_true, decide_false]
  congr 1
  · by_cases h : 4 ≤ i
    · rw [h4 4 h]
    · rw [show (128#8).getLsbD i = false by interval_cases i <;> first | rfl | omega, Bool.and_false, Bool.and_false]
  · by_cases h : 2 ≤ i
    · rw [h4 2 h]
    · rw [show (28#8).getLsbD i = false by interval_cases i <;> first | rfl | omega, Bool.and_false, Bool.and_false]

/-- A byte of the high halves' word. -/
theorem highWord_byte (w : BitVec 32) (b : BitVec 8) (k : ℕ) (hk : k < 4) (hb : ∀ i < 8, w.getLsbD (8 * k + i) = b.getLsbD i) (i : ℕ) (hi : i < 8) :
    (highWord w).getLsbD (8 * k + i) = (code8 (nibble b 1)).getLsbD i := by
  rw [← code8_high]
  show ((w &&& 2155905152#32) ||| (w >>> 2 &&& 471604252#32)).getLsbD (8 * k + i) = _
  obtain ⟨m1, m2⟩ := masks ⟨k, hk⟩ ⟨i, hi⟩
  simp only [] at m1 m2
  simp only [BitVec.getLsbD_or, BitVec.getLsbD_and, m1, m2, hb i hi]
  congr 1
  by_cases h : i < 6
  · rw [BitVec.getLsbD_ushiftRight, BitVec.getLsbD_ushiftRight, show 2 + (8 * k + i) = 8 * k + (2 + i) by omega, hb _ (by omega)]
  · rw [show (28#8).getLsbD i = false by interval_cases i <;> first | rfl | omega, Bool.and_false, Bool.and_false]

section Kernel
open Cert.KernelIdeal Cert.KernelIdeal.Gen

/-- The low halves, as the kernel decodes them: a 64th of the numbers. -/
theorem low_apply (w : Vec Ideal S2880x128 .i8) (p : Fin 2880) (l : Fin 128) :
    k0_pay10 (F := Ideal) w (ix2 p l) * ((64 : ℝ) : EReal) = weight (w (ix2 p l)) 0 := by
  have hn : nibble (w (ix2 p l)) 0 < 16 := Nat.mod_lt _ (by norm_num)
  rw [weight, ← code_value ⟨_, hn⟩]
  refine congrArg (· * ((64 : ℝ) : EReal)) ?_
  have e : k0_pay10 (F := Ideal) w (ix2 p l) = Ideal.ofBits .fp8e4m3 (bitcast S2880x128 8
      (fun j => lowWord (bitcast S720x128 32 w bitcasts_S2880x128_w8_S720x128_w32 j)) bitcasts_S720x128_w32_S2880x128_w8 (ix2 p l)) := rfl
  rw [e]
  refine congrArg (Ideal.ofBits .fp8e4m3) ?_
  apply BitVec.eq_of_getLsbD_eq
  intro i hi
  refine (byte_of_word _ _ p l ⟨p.val / 4, by omega⟩ (p.val % 4) (by omega) (by show _ = 4 * (p.val / 4) + _; omega) i hi).trans ?_
  refine lowWord_byte _ _ _ (by omega) (fun i hi => ?_) i hi
  exact word_of_bytes w _ p l ⟨p.val / 4, by omega⟩ (p.val % 4) (by omega) (by show _ = 4 * (p.val / 4) + _; omega) i hi

/-- The high halves likewise. -/
theorem high_apply (w : Vec Ideal S2880x128 .i8) (p : Fin 2880) (l : Fin 128) :
    k0_pay11 (F := Ideal) w (ix2 p l) * ((64 : ℝ) : EReal) = weight (w (ix2 p l)) 1 := by
  have hn : nibble (w (ix2 p l)) 1 < 16 := by
    have := (w (ix2 p l)).isLt
    show (w (ix2 p l)).toNat / 16 < 16
    omega
  rw [weight, ← code_value ⟨_, hn⟩]
  refine congrArg (· * ((64 : ℝ) : EReal)) ?_
  have e : k0_pay11 (F := Ideal) w (ix2 p l) = Ideal.ofBits .fp8e4m3 (bitcast S2880x128 8
      (fun j => highWord (bitcast S720x128 32 w bitcasts_S2880x128_w8_S720x128_w32 j)) bitcasts_S720x128_w32_S2880x128_w8 (ix2 p l)) := rfl
  rw [e]
  refine congrArg (Ideal.ofBits .fp8e4m3) ?_
  apply BitVec.eq_of_getLsbD_eq
  intro i hi
  refine (byte_of_word _ _ p l ⟨p.val / 4, by omega⟩ (p.val % 4) (by omega) (by show _ = 4 * (p.val / 4) + _; omega) i hi).trans ?_
  refine highWord_byte _ _ _ (by omega) (fun i hi => ?_) i hi
  exact word_of_bytes w _ p l ⟨p.val / 4, by omega⟩ (p.val % 4) (by omega) (by show _ = 4 * (p.val / 4) + _; omega) i hi

end Kernel

section Reference
open Cert.ReferenceIdeal Cert.ReferenceIdeal.Gen

theorem low_bits : ∀ b : BitVec 8, IntOp.andi (BitVec.setWidth 32 b) 15#32 = BitVec.ofNat 32 (nibble b 0) := by decide +kernel
theorem high_bits : ∀ b : BitVec 8, IntOp.shrsi ArithUnit.vector (BitVec.setWidth 32 b) 4#32 = BitVec.ofNat 32 (nibble b 1) := by decide +kernel

/-- The reference's low halves, scaled. -/
theorem reference_low (w : Vec Ideal S2880x5760 .i8) (s : Vec Ideal S180x11520 .fp8e4m3) (r : Fin 2880) (z : Fin 5760) :
    k0_pay11 (F := Ideal) (k0_pay8 w) (k0_pay9 s) (k0_pay10 w) (ix2 r z) =
      weight (w (ix2 r z)) 0 * s (ix2 ⟨r.val / 16, by omega⟩ ⟨z.val * 2, by omega⟩) := by
  pointwise [k0_pay11, k0_pay10, k0_pay9, k0_pay8, k0_pay7, k0_pay6]
  rw [low_bits]
  rfl

end Reference

end Cert.Weights
-- ==== Proof.Product.lean ====
module

public import proofs.«01_k».proof.Proof.Weights

/-! The product: an entry of the result, as the kernel's block and as the reference's array hold it. -/

@[expose] public section

set_option maxRecDepth 16384
set_option maxHeartbeats 1000000

noncomputable section

namespace Cert.Product

open Idealize.ShloMosaic Idealize.ShloMosaic.TcCoe Cert.Weights

/-- One entry of the result: a row of codes against a column of scaled weights, times the row's scale, times the global
scale. `b` is the column of weight bytes, `o` which half of each byte is meant, `s` the column's block scales. -/
def entry (x : Fin 2880 → EReal) (b : Fin 2880 → BitVec 8) (o : ℕ) (s : Fin 180 → EReal) (xs g : EReal) : EReal :=
  (∑ k : Fin 2880, x k * (weight (b k) o * s ⟨k.val / 16, by omega⟩)) * xs * g

section Kernel
open Cert.KernelIdeal Cert.KernelIdeal.Gen Cert.KernelIdeal.Run

/-- The factor the kernel gives the block scales. -/
theorem sixtyfour : Ideal.ofBits .f32 1115684864#32 = ((64 : ℝ) : EReal) := by
  show Ideal.ieee 8 23 1115684864#32 = _
  unfold Ideal.ieee
  rw [show ((1115684864#32).extractLsb' 23 8).toNat = 133 by decide, show ((1115684864#32).extractLsb' 0 23).toNat = 0 by decide,
    show ((1115684864#32).extractLsb' (8 + 23) 1 == 1#1) = false by decide]
  simp only []
  rw [if_neg (by norm_num), if_neg (by norm_num), if_neg (by decide)]
  refine congrArg ((↑) : ℝ → EReal) ?_
  norm_num

/-- The left half of a block of scales, 64 times. -/
theorem left_apply (s : Vec Ideal S180x256 .fp8e4m3) (q : Fin 180) (l : Fin 128) :
    k0_pay13 (F := Ideal) s (ix2 q l) = s (ix2 q ⟨l.val, by omega⟩) * ((64 : ℝ) : EReal) := by
  rw [← sixtyfour]
  pointwise [k0_pay12, k0_pay13]

/-- The right half. -/
theorem right_apply (s : Vec Ideal S180x256 .fp8e4m3) (q : Fin 180) (l : Fin 128) :
    k0_pay14 (F := Ideal) s (ix2 q l) = s (ix2 q ⟨128 + l.val, by omega⟩) * ((64 : ℝ) : EReal) := by
  rw [← sixtyfour]
  pointwise [k0_pay12, k0_pay14]

/-- The lane an even column's scale is fetched from, as the kernel computes it. -/
def laneOf (l : BitVec 32) (o : BitVec 32) : BitVec 32 :=
  Scalar.select (IntOp.cmpi .slt (IntOp.addi (IntOp.andi (IntOp.muli 2#32 l) 127#32) o) 0#32)
    (IntOp.addi (IntOp.addi (IntOp.andi (IntOp.muli 2#32 l) 127#32) o) 128#32)
    (IntOp.addi (IntOp.andi (IntOp.muli 2#32 l) 127#32) o)

theorem laneOf_val : ∀ (l : Fin 128) (o : Fin 2), (laneOf (BitVec.ofNat 32 l.val) (BitVec.ofNat 32 o.val)).toNat % 128 = 2 * l.val % 128 + o.val := by
  decide +kernel
theorem halfOf : ∀ l : Fin 128, IntOp.cmpi .slt (BitVec.ofNat 32 l.val) 64#32 = if l.val < 64 then 1#1 else 0#1 := by decide +kernel

/-- Fetching from the two halves of a block of scales fetches from the block: column `2 l + o` of the 256. -/
theorem fetched (s : Vec Ideal S180x256 .fp8e4m3) (q : Fin 180) (l : Fin 128) (o : Fin 2) (c : Fin 128)
    (hc : c.val = (laneOf (BitVec.ofNat 32 l.val) (BitVec.ofNat 32 o.val)).toNat % 128) :
    Scalar.select (IntOp.cmpi .slt (BitVec.ofNat 32 l.val) 64#32) (k0_pay13 (F := Ideal) s (ix2 q c)) (k0_pay14 (F := Ideal) s (ix2 q c)) =
      s (ix2 q ⟨2 * l.val + o.val, by omega⟩) * ((64 : ℝ) : EReal) := by
  rw [halfOf, left_apply, right_apply]
  rw [laneOf_val] at hc
  by_cases h : l.val < 64
  · rw [if_pos h]
    show s _ * _ = _
    have : (⟨c.val, by omega⟩ : Fin 256) = ⟨2 * l.val + o.val, by omega⟩ := Fin.ext (by show c.val = 2 * l.val + o.val; omega)
    rw [this]
  · rw [if_neg h]
    show s _ * _ = _
    have : (⟨128 + c.val, by omega⟩ : Fin 256) = ⟨2 * l.val + o.val, by omega⟩ := Fin.ext (by show 128 + c.val = 2 * l.val + o.val; omega)
    rw [this]

/-- A 64th of a number times 64 times its scale. -/
theorem scaled (a v s : EReal) (h : a * ((64 : ℝ) : EReal) = v) : a * (s * ((64 : ℝ) : EReal)) = v * s := by
  rw [← h, mul_comm s, mul_assoc]

/-- The even columns' scaled weights. -/
theorem low_scaled (w : Vec Ideal S2880x128 .i8) (s : Vec Ideal S180x256 .fp8e4m3) (p : Fin 2880) (l : Fin 128) :
    lowOf w s (ix2 p l) = weight (w (ix2 p l)) 0 * s (ix2 ⟨p.val / 16, by omega⟩ ⟨2 * l.val + 0, by omega⟩) := by
  refine Eq.trans ?_ (scaled _ _ _ (low_apply w p l))
  refine Eq.trans ?_ (congrArg (k0_pay10 (F := Ideal) w (ix2 p l) * ·) (fetched s ⟨p.val / 16, by omega⟩ l 0 ⟨_, Nat.mod_lt _ (by norm_num)⟩ rfl))
  pointwise [lowOf, k0_pay17, k0_pay15, k0_pay16]
  rfl

/-- The odd columns' scaled weights. -/
theorem high_scaled (w : Vec Ideal S2880x128 .i8) (s : Vec Ideal S180x256 .fp8e4m3) (p : Fin 2880) (l : Fin 128) :
    k0_pay11 (F := Ideal) w (ix2 p l) * highScaleOf s (ix3 ⟨p.val / 16, by omega⟩ ⟨p.val % 16, Nat.mod_lt _ (by norm_num)⟩ l) =
      weight (w (ix2 p l)) 1 * s (ix2 ⟨p.val / 16, by omega⟩ ⟨2 * l.val + 1, by omega⟩) := by
  refine Eq.trans ?_ (scaled _ _ _ (high_apply w p l))
  refine congrArg (k0_pay11 (F := Ideal) w (ix2 p l) * ·) ?_
  refine Eq.trans ?_ (fetched s ⟨p.val / 16, by omega⟩ l 1 ⟨_, Nat.mod_lt _ (by norm_num)⟩ rfl)
  pointwise [highScaleOf, k0_pay18, k0_pay15]
  rfl

/-- The block before its columns are interleaved: even columns in the left half, odd ones in the right. -/
theorem halves (g : EReal) (w : Vec Ideal S2880x128 .i8) (s : Vec Ideal S180x256 .fp8e4m3) (xb : Vec Ideal S256x2880 .bf16)
    (xs : Vec Ideal S256x1 .f32) (r : Fin 256) (l : Fin 128) (o : Fin 2) (z : Fin 256) (hz : z.val = 128 * o.val + l.val) :
    k0_pay19 (F := Ideal) (k0_pay11 w) (lowOf w s) (highScaleOf s) xb xs g (ix2 r z) =
      entry (fun k => xb (ix2 r k)) (fun k => w (ix2 k l)) o.val (fun q => s (ix2 q ⟨2 * l.val + o.val, by omega⟩)) (xs (ix2 r 0)) g := by
  pointwise [k0_pay19]
  unfold entry
  refine congrArg (· * xs (ix2 r 0) * g) (Finset.sum_congr rfl fun k _ => congrArg (xb (ix2 r k) * ·) ?_)
  obtain ⟨o, ho⟩ := o
  interval_cases o
  · change z.val = 128 * 0 + l.val at hz
    rw [dif_pos (by omega)]
    refine Eq.trans ?_ (low_scaled w s k l)
    exact congrArg (fun c => lowOf w s (ix2 k c)) (Fin.ext (by show z.val = l.val; omega))
  · change z.val = 128 * 1 + l.val at hz
    rw [dif_neg (by omega)]
    have e : (⟨z.val - 128, by omega⟩ : Fin 128) = l := Fin.ext (by show z.val - 128 = l.val; omega)
    rw [e]
    exact high_scaled w s k l

/-- The lane an entry of the result is fetched from, as the kernel computes it (`o` is 0 for the left half of the block and
64 for the right). -/
def fromOf (l : BitVec 32) (o : BitVec 32) : BitVec 32 :=
  Scalar.select (IntOp.cmpi .slt (IntOp.addi (IntOp.shrui ArithUnit.vector l 1#32) o) 0#32)
    (IntOp.addi (IntOp.addi (IntOp.shrui ArithUnit.vector l 1#32) o) 128#32)
    (IntOp.addi (IntOp.shrui ArithUnit.vector l 1#32) o)

theorem fromOf_val : ∀ (l : Fin 128) (o : Fin 2), (fromOf (BitVec.ofNat 32 l.val) (BitVec.ofNat 32 (64 * o.val))).toNat % 128 = l.val / 2 + 64 * o.val := by
  decide +kernel
theorem oddOf : ∀ l : Fin 128, IntOp.cmpi .eq (IntOp.andi (BitVec.ofNat 32 l.val) 1#32) 1#32 = if l.val % 2 = 1 then 1#1 else 0#1 := by decide +kernel

theorem select_one (a b : EReal) : Scalar.select 1#1 a b = a := rfl
theorem select_zero (a b : EReal) : Scalar.select 0#1 a b = b := rfl

/-- The interleaving, entry by entry: column `c` of the block is the odd or even half's column `c / 2`. -/
theorem interleaved (g : EReal) (w : Vec Ideal S2880x128 .i8) (s : Vec Ideal S180x256 .fp8e4m3) (xb : Vec Ideal S256x2880 .bf16)
    (xs : Vec Ideal S256x1 .f32) (r : Fin 256) (l : Fin 128) (o : Fin 2) (c : Fin 128) (z : Fin 256) (p : ℕ) (hp : p = z.val % 2) (hz : z.val = 128 * o.val + l.val)
    (hc : c.val = (fromOf (BitVec.ofNat 32 l.val) (BitVec.ofNat 32 (64 * o.val))).toNat % 128) :
    Scalar.select (IntOp.cmpi .eq (IntOp.andi (BitVec.ofNat 32 l.val) 1#32) 1#32)
      (k0_pay21 (F := Ideal) (k0_pay11 w) (lowOf w s) (highScaleOf s) xb xs g (ix2 r c))
      (k0_pay20 (F := Ideal) (k0_pay11 w) (lowOf w s) (highScaleOf s) xb xs g (ix2 r c)) =
    entry (fun k => xb (ix2 r k)) (fun k => w (ix2 k ⟨z.val / 2, by omega⟩)) p (fun q => s (ix2 q z)) (xs (ix2 r 0)) g := by
  rw [fromOf_val] at hc
  have e20 : k0_pay20 (F := Ideal) (k0_pay11 w) (lowOf w s) (highScaleOf s) xb xs g (ix2 r c) =
      k0_pay19 (F := Ideal) (k0_pay11 w) (lowOf w s) (highScaleOf s) xb xs g (ix2 r ⟨c.val, by omega⟩) := by pointwise [k0_pay20]
  have e21 : k0_pay21 (F := Ideal) (k0_pay11 w) (lowOf w s) (highScaleOf s) xb xs g (ix2 r c) =
      k0_pay19 (F := Ideal) (k0_pay11 w) (lowOf w s) (highScaleOf s) xb xs g (ix2 r ⟨128 + c.val, by omega⟩) := by pointwise [k0_pay21]
  have hcz : c = ⟨z.val / 2, by omega⟩ := Fin.ext (by show c.val = z.val / 2; omega)
  rw [oddOf, e20, e21, halves g w s xb xs r c 0 ⟨c.val, by omega⟩ (by show c.val = 128 * 0 + c.val; omega),
    halves g w s xb xs r c 1 ⟨128 + c.val, by omega⟩ (by show 128 + c.val = 128 * 1 + c.val; omega)]
  by_cases h : l.val % 2 = 1
  · rw [if_pos h]
    rw [select_one]
    obtain rfl : p = 1 := by omega
    have hzz : (⟨2 * c.val + 1, by omega⟩ : Fin 256) = z := Fin.ext (by show 2 * c.val + 1 = z.val; omega)
    rw [← hcz]
    exact congrArg (fun y => entry _ _ 1 (fun q => s (ix2 q y)) _ g) hzz
  · rw [if_neg h]
    rw [select_zero]
    obtain rfl : p = 0 := by omega
    have hzz : (⟨2 * c.val + 0, by omega⟩ : Fin 256) = z := Fin.ext (by show 2 * c.val + 0 = z.val; omega)
    rw [← hcz]
    exact congrArg (fun y => entry _ _ 0 (fun q => s (ix2 q y)) _ g) hzz

/-- The left half of the stored block. -/
theorem yLeft_apply (g : EReal) (w : Vec Ideal S2880x128 .i8) (s : Vec Ideal S180x256 .fp8e4m3) (xb : Vec Ideal S256x2880 .bf16)
    (xs : Vec Ideal S256x1 .f32) (r : Fin 256) (l : Fin 128) (z : Fin 256) (p : ℕ) (hp : p = z.val % 2) (hz : z.val = l.val) :
    yLeft (F := Ideal) g w s xb xs (ix2 r l) =
    entry (fun k => xb (ix2 r k)) (fun k => w (ix2 k ⟨z.val / 2, by omega⟩)) p (fun q => s (ix2 q z)) (xs (ix2 r 0)) g := by
  rw [← interleaved g w s xb xs r l 0 ⟨_, Nat.mod_lt _ (by norm_num)⟩ z p hp (by show z.val = 128 * 0 + l.val; omega) rfl]
  pointwise [yLeft, k0_pay23, k0_pay22]
  rfl

/-- The right half of the stored block. -/
theorem yRight_apply (g : EReal) (w : Vec Ideal S2880x128 .i8) (s : Vec Ideal S180x256 .fp8e4m3) (xb : Vec Ideal S256x2880 .bf16)
    (xs : Vec Ideal S256x1 .f32) (r : Fin 256) (l : Fin 128) (z : Fin 256) (p : ℕ) (hp : p = z.val % 2) (hz : z.val = 128 + l.val) :
    yRight (F := Ideal) g w s xb xs (ix2 r l) =
    entry (fun k => xb (ix2 r k)) (fun k => w (ix2 k ⟨z.val / 2, by omega⟩)) p (fun q => s (ix2 q z)) (xs (ix2 r 0)) g := by
  rw [← interleaved g w s xb xs r l 1 ⟨_, Nat.mod_lt _ (by norm_num)⟩ z p hp (by show z.val = 128 * 1 + l.val; omega) rfl]
  pointwise [yRight, k0_pay1, k0_pay22]
  rfl

end Kernel

section Reference
open Cert.ReferenceIdeal Cert.ReferenceIdeal.Gen

/-- An entry of the reference's product. -/
theorem reference_apply (w : Vec Ideal S2880x5760 .i8) (s : Vec Ideal S180x11520 .fp8e4m3) (xs : FVec Ideal S256x1 .f32)
    (xc : FVec Ideal S256x2880 .fp8e4m3) (g : EReal) (r : Fin 256) (z : Fin 11520)
    (o : ℕ) (ho : o = z.val % 2) :
    k0_pay1 (F := Ideal) xs xc (k0_pay11 (k0_pay8 w) (k0_pay9 s) (k0_pay10 w)) (k0_pay12 (k0_pay6 w)) (k0_pay13 (k0_pay7 s))
      (k0_pay14 (k0_pay6 w)) (k0_pay15 (k0_pay6 w)) (k0_pay16 (k0_pay6 w)) g g (ix2 r z) =
    entry (fun k => xc (ix2 r k)) (fun k => w (ix2 k ⟨z.val / 2, by omega⟩)) o (fun q => s (ix2 q z)) (xs (ix2 r 0)) g := by
  pointwise [k0_pay1]
  unfold entry
  by_cases h : z.val % 2 < 1
  · rw [dif_pos h]
    refine congrArg (· * xs (ix2 r 0) * g) (Finset.sum_congr rfl fun k _ => congrArg (xc (ix2 r k) * ·) ?_)
    obtain rfl : o = 0 := by omega
    rw [reference_low]
    refine congrArg (fun c => weight _ 0 * s (ix2 _ c)) (Fin.ext ?_)
    show z.val / 2 * 2 = z.val
    omega
  · rw [dif_neg h]
    refine congrArg (· * xs (ix2 r 0) * g) (Finset.sum_congr rfl fun k _ => congrArg (xc (ix2 r k) * ·) ?_)
    pointwise [k0_pay12, k0_pay13, k0_pay14, k0_pay15, k0_pay16, k0_pay6, k0_pay7]
    obtain rfl : o = 1 := by omega
    rw [high_bits]
    refine congrArg (fun c => weight (w (ix2 k ⟨z.val / 2, _⟩)) 1 * s (ix2 _ c)) (Fin.ext ?_)
    show z.val / 2 * 2 + 1 = z.val
    omega

end Reference

end Cert.Product
-- ==== Proof.KValue.lean ====
module

public import proofs.«01_k».proof.Proof.KFrame
public import proofs.«01_k».proof.Proof.Product
public import Idealize.ShloMosaic.Lib.Pipeline.ValueKit

/-! The kernel's run: the three result arrays as functions of the arrays its windows show. -/

@[expose] public section

set_option maxRecDepth 16384
set_option maxHeartbeats 1000000

noncomputable section

namespace Cert.KernelIdeal.Result

open Cert.KernelIdeal Cert.KernelIdeal.Gen Cert.KernelIdeal.Run Cert.Product Idealize.ShloMosaic Idealize.ShloMosaic.TcCoe Idealize.SL.Sem
open Idealize.ShloMosaic.Pipeline (Dat)

/-- A block of columns of the product, from the blocks it is computed from. -/
def blockOf (g : EReal) (w : Vec Ideal S2880x128 .i8) (s : Vec Ideal S180x256 .fp8e4m3) (xb : Vec Ideal S256x2880 .bf16)
    (xs : Vec Ideal S256x1 .f32) : Vec Ideal S256x256 .bf16 := fun y =>
  entry (fun k => xb (ix2 (y 0) k)) (fun k => w (ix2 k ⟨(y 1).val / 2, by have : (y 1).val < 256 := (y 1).isLt; omega⟩)) ((y 1).val % 2)
    (fun q => s (ix2 q (y 1))) (xs (ix2 (y 0) 0)) g

/-- The two halves stored are the two halves of that block. -/
theorem yOf_eq (g : EReal) (w : Vec Ideal S2880x128 .i8) (s : Vec Ideal S180x256 .fp8e4m3) (xb : Vec Ideal S256x2880 .bf16)
    (xs : Vec Ideal S256x1 .f32) : yOf (F := Ideal) g w s xb xs = blockOf g w s xb xs := by
  refine funext fun y => View.canon_apply_of_pieces (Val := Elt Ideal) (S := S256x256) (e := .bf16) (blockOf g w s xb xs) _ ?_ y (yPieces_cover _ _ y)
  intro p hp x
  unfold yPieces at hp
  rcases List.mem_cons.mp hp with rfl | hp
  · idx_vars x
    have e : (Rect.unit ![0, 128] ![256, 128] inb_S256x256_S256x128_0_128).emb (ix2 x0 x1) = ix2 x0 ⟨128 + x1.val, by omega⟩ := by blk_ext
    exact (yRight_apply g w s xb xs x0 x1 ⟨128 + x1.val, by omega⟩ _ rfl rfl).trans (congrArg (blockOf g w s xb xs) e.symm)
  · rcases List.mem_cons.mp hp with rfl | hp
    · idx_vars x
      have e : (Rect.unit ![0, 0] ![256, 128] inb_S256x256_S256x128_0_0).emb (ix2 x0 x1) = ix2 x0 ⟨x1.val, by omega⟩ := by blk_ext
      exact (yLeft_apply g w s xb xs x0 x1 ⟨x1.val, by omega⟩ _ rfl rfl).trans (congrArg (blockOf g w s xb xs) e.symm)
    · simp at hp

variable (m : (ℓ : Loc nD τ sig) → Buf (Elt Ideal) ℓ) (ρ : Dev nD → PrngReg)

/-- Where each window is at each grid point. -/
theorem idx : ∀ t : Fin cfg0.N, win0_0.index t = ![0] ∧ win0_1.index t = ![0, 0] ∧ win0_2.index t = ![0, t.val] ∧ win0_3.index t = ![0, t.val]
    ∧ win0_4.index t = ![0, t.val] ∧ win0_5.index t = ![0, 0] ∧ win0_6.index t = ![0, 0] :=
  (by decide +kernel : ∀ t : Fin grid0.N, _)

theorem lt45 (t : Fin cfg0.N) : t.val < 45 := Nat.lt_of_lt_of_eq t.isLt N_0

/-- The activations' and the global scale's blocks are their whole arrays. -/
theorem iblk_x (c : Dev nD) (t : Fin cfg0.N) : iblk m c 1 t = V m c main_v1 := by
  refine funext fun y => ?_
  blk_ext [iblk, idx t]
theorem iblk_g (c : Dev nD) (t : Fin cfg0.N) : iblk m c 0 t = V m c main_v0 := by
  refine funext fun y => ?_
  blk_ext [iblk, idx t]
/-- The weight bytes' block at point `t` is 128 columns. -/
theorem iblk_w (c : Dev nD) (t : Fin cfg0.N) (k : Fin 2880) (l : Fin 128) :
    (iblk m c 2 t : Vec Ideal S2880x128 .i8) (ix2 k l) = (V m c main_arg1 : Vec Ideal S2880x5760 .i8) (ix2 k ⟨128 * t.val + l.val, by have := lt45 t; omega⟩) := by
  blk_ext [iblk, idx t]
/-- The block scales' block at point `t` is 256 columns. -/
theorem iblk_s (c : Dev nD) (t : Fin cfg0.N) (q : Fin 180) (l : Fin 256) :
    (iblk m c 3 t : Vec Ideal S180x256 .fp8e4m3) (ix2 q l) = (V m c main_arg2 : Vec Ideal S180x11520 .fp8e4m3) (ix2 q ⟨256 * t.val + l.val, by have := lt45 t; omega⟩) := by
  blk_ext [iblk, idx t]

/-- The activations' scales. -/
theorem final6 (c : Dev nD) : (dats m 0 c).arrAt 6 cfg0.N = k0_pay4 (F := Ideal) (V m c main_v1) := by
  refine (dats m 0 c).arrAt_eq_of_covers 6 _ (by decide +kernel) fun t hf y => ?_
  have e : (dats m 0 c).after 6 t = k0_pay4 (F := Ideal) (V m c main_v1) := by
    rw [after0_6, xIn, iblk_x]
  rw [e]
  blk_ext [idx t]

/-- The codes. -/
theorem final5 (c : Dev nD) : (dats m 0 c).arrAt 5 cfg0.N = codesOf (F := Ideal) (V m c main_v1) := by
  refine (dats m 0 c).arrAt_eq_of_covers 5 _ (by decide +kernel) fun t hf y => ?_
  have e : (dats m 0 c).after 5 t = codesOf (F := Ideal) (V m c main_v1) := by
    rw [after0_5, xIn, iblk_x]
  rw [e]
  blk_ext [idx t]

/-- The product, from the activations, the weight bytes, the block scales and the global scale. -/
def product (x : Vec Ideal S256x2880 .bf16) (w : Vec Ideal S2880x5760 .i8) (s : Vec Ideal S180x11520 .fp8e4m3) (g : EReal) : Vec Ideal S256x11520 .bf16 := fun j =>
  entry (fun k => xbOf (F := Ideal) x (ix2 (j 0) k)) (fun k => w (ix2 k ⟨(j 1).val / 2, by have : (j 1).val < 11520 := (j 1).isLt; omega⟩)) ((j 1).val % 2)
    (fun q => s (ix2 q (j 1))) (k0_pay4 (F := Ideal) x (ix2 (j 0) 0)) g

/-- A block of columns of the product is what the point leaves. -/
theorem block_apply (c : Dev nD) (t : Fin cfg0.N) (r z : Fin 256) :
    yAt m c t (ix2 r z) = product (V m c main_v1) (V m c main_arg1) (V m c main_arg2) ((V m c main_v0 : Vec Ideal S1 .f32) (ValueIdx.ix1 0))
      (ix2 r ⟨256 * t.val + z.val, by have := lt45 t; omega⟩) := by
  have ht := lt45 t
  refine (congrFun (yOf_eq _ _ _ _ _) _).trans ?_
  unfold product blockOf entry
  rw [xIn, iblk_x, iblk_g]
  refine congrArg (· * k0_pay4 (F := Ideal) (V m c main_v1) (ix2 r 0) * (V m c main_v0 : Vec Ideal S1 .f32) (ValueIdx.ix1 0)) (Finset.sum_congr rfl fun k _ => ?_)
  refine congrArg (xbOf (F := Ideal) (V m c main_v1) (ix2 r k) * ·) ?_
  have e1 : (iblk m c 2 t : Vec Ideal S2880x128 .i8) (ix2 k ⟨z.val / 2, by omega⟩) = (V m c main_arg1 : Vec Ideal S2880x5760 .i8) (ix2 k ⟨(256 * t.val + z.val) / 2, by omega⟩) :=
    (iblk_w m c t k ⟨z.val / 2, by omega⟩).trans (congrArg (fun l => (V m c main_arg1 : Vec Ideal S2880x5760 .i8) (ix2 k l)) (Fin.ext (by show 128 * t.val + z.val / 2 = (256 * t.val + z.val) / 2; omega)))
  have e2 : z.val % 2 = (256 * t.val + z.val) % 2 := by omega
  exact congr (congrArg (fun a b => a * b) (congr (congrArg Cert.Weights.weight e1) e2)) (iblk_s m c t _ z)

/-- The product. -/
theorem final4 (c : Dev nD) : (dats m 0 c).arrAt 4 cfg0.N =
    product (V m c main_v1) (V m c main_arg1) (V m c main_arg2) ((V m c main_v0 : Vec Ideal S1 .f32) (ValueIdx.ix1 0)) := by
  refine (dats m 0 c).arrAt_eq_of_covers 4 _ (by decide +kernel) fun t hf y => ?_
  blk_simp
  rw [after0_4]
  idx_vars y
  refine (block_apply m c t _ _).trans ?_
  blk_ext [idx t]

/-- The kernel's run: its three results, its arguments unchanged. -/
theorem run : θ_run (defs (F := Ideal)) (onTc (τ := τ) (main (F := Ideal))) ⟨m, fun _ => 0, ρ⟩ fun r => ∀ c : Dev nD,
      r.2.mem ((c : Thread nD τ).loc main_v2_0) = product (V m c main_v1) (V m c main_arg1) (V m c main_arg2) ((V m c main_v0 : Vec Ideal S1 .f32) (ValueIdx.ix1 0))
      ∧ r.2.mem ((c : Thread nD τ).loc main_v2_1) = codesOf (F := Ideal) (V m c main_v1)
      ∧ r.2.mem ((c : Thread nD τ).loc main_v2_2) = k0_pay4 (F := Ideal) (V m c main_v1)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨((h.1 c).1 4).trans (final4 m c), ((h.1 c).1 5).trans (final5 m c), ((h.1 c).1 6).trans (final6 m c), h.2 c⟩)
    (θ_run_and (run_main m ρ) (frame_of m ρ (dats m) (A_eq m) (run_main m ρ)))

end Cert.KernelIdeal.Result

end
-- ==== Proof.RValue.lean ====
module

public import proofs.«01_k».proof.Proof.Gen.ReferenceIdeal.Value
public import Idealize.ShloMosaic.Lib.Pipeline.ValueKit

/-! The reference's run: the three result arrays as functions of the arrays its one program reads. -/

@[expose] public section

set_option maxRecDepth 16384

noncomputable section

namespace Cert.ReferenceIdeal.Result

open Cert.ReferenceIdeal Cert.ReferenceIdeal.Gen Cert.ReferenceIdeal.Value Idealize.ShloMosaic Idealize.ShloMosaic.TcCoe Idealize.SL.Sem
open Idealize.ShloMosaic.Pipeline (Dat)

/-- The product, from the activations, the weight bytes, the block scales and the global scale. -/
def product (x : Vec Ideal S256x2880 .bf16) (w : Vec Ideal S2880x5760 .i8) (s : Vec Ideal S180x11520 .fp8e4m3) (g : EReal) : Vec Ideal S256x11520 .bf16 :=
  k0_pay1 (F := Ideal) (k0_pay4 x) (k0_pay5 x) (k0_pay11 (k0_pay8 w) (k0_pay9 s) (k0_pay10 w)) (k0_pay12 (k0_pay6 w)) (k0_pay13 (k0_pay7 s))
    (k0_pay14 (k0_pay6 w)) (k0_pay15 (k0_pay6 w)) (k0_pay16 (k0_pay6 w)) g g

variable (m : (ℓ : Loc nD τ sig) → Buf (Elt Ideal) ℓ) (ρ : Dev nD → PrngReg)

/-- Every window is at the one block there is. -/
theorem idx : ∀ t : Fin cfg0.N, win0_0.index t = ![0, 0] ∧ win0_1.index t = ![0, 0] ∧ win0_2.index t = ![0, 0] ∧ win0_3.index t = ![0]
    ∧ win0_4.index t = ![0, 0] ∧ win0_5.index t = ![0, 0] ∧ win0_6.index t = ![0, 0] :=
  (by decide +kernel : ∀ t : Fin grid0.N, _)

/-- Each input's block is the whole of its array. -/
theorem iblk_x (c : Dev nD) (t : Fin cfg0.N) : iblk m c 0 t = V m c main_v0 := by
  refine funext fun y => ?_
  blk_ext [iblk, idx t]
theorem iblk_w (c : Dev nD) (t : Fin cfg0.N) : iblk m c 1 t = V m c main_arg1 := by
  refine funext fun y => ?_
  blk_ext [iblk, idx t]
theorem iblk_s (c : Dev nD) (t : Fin cfg0.N) : iblk m c 2 t = V m c main_arg2 := by
  refine funext fun y => ?_
  blk_ext [iblk, idx t]
theorem iblk_g (c : Dev nD) (t : Fin cfg0.N) : iblk m c 3 t = V m c main_v1 := by
  refine funext fun y => ?_
  blk_ext [iblk, idx t]

/-- An array of one element has the one element everywhere. -/
theorem single (g : Vec Ideal S1 .f32) (i j : S1.Idx) : g i = g j :=
  congrArg g (funext fun a => Fin.ext (by
    have hi := (i a).isLt
    have hj := (j a).isLt
    have hs : S1.size a = 1 := by match a with | ⟨0, _⟩ => rfl
    omega))

/-- The activations' scales, as the body leaves them. -/
theorem left6 (c : Dev nD) (arg0 : Memref sig .tc .vmem S256x2880 .bf16) (harg0 : arg0.IsWhole) (arg1 : Memref sig .tc .vmem S2880x5760 .i8) (harg1 : arg1.IsWhole)
    (arg2 : Memref sig .tc .vmem S180x11520 .fp8e4m3) (harg2 : arg2.IsWhole) (arg3 : Memref sig .tc .smem S1 .f32) (harg3 : arg3.IsWhole)
    (arg4 : Memref sig .tc .vmem S256x11520 .bf16) (harg4 : arg4.IsWhole) (arg5 : Memref sig .tc .vmem S256x2880 .fp8e4m3) (harg5 : arg5.IsWhole)
    (arg6 : Memref sig .tc .vmem S256x1 .f32) (harg6 : arg6.IsWhole)
    (x : Vec Ideal S256x2880 .bf16) (w : Vec Ideal S2880x5760 .i8) (s : Vec Ideal S180x11520 .fp8e4m3) (g : Vec Ideal S1 .f32) :
    out0_A_6 c arg0 harg0 arg1 harg1 arg2 harg2 arg3 harg3 arg4 harg4 arg5 harg5 arg6 harg6 x w s g = k0_pay4 (F := Ideal) x := by
  frame_out

/-- The codes, as the body leaves them. -/
theorem left5 (c : Dev nD) (arg0 : Memref sig .tc .vmem S256x2880 .bf16) (harg0 : arg0.IsWhole) (arg1 : Memref sig .tc .vmem S2880x5760 .i8) (harg1 : arg1.IsWhole)
    (arg2 : Memref sig .tc .vmem S180x11520 .fp8e4m3) (harg2 : arg2.IsWhole) (arg3 : Memref sig .tc .smem S1 .f32) (harg3 : arg3.IsWhole)
    (arg4 : Memref sig .tc .vmem S256x11520 .bf16) (harg4 : arg4.IsWhole) (arg5 : Memref sig .tc .vmem S256x2880 .fp8e4m3) (harg5 : arg5.IsWhole)
    (arg6 : Memref sig .tc .vmem S256x1 .f32) (harg6 : arg6.IsWhole)
    (x : Vec Ideal S256x2880 .bf16) (w : Vec Ideal S2880x5760 .i8) (s : Vec Ideal S180x11520 .fp8e4m3) (g : Vec Ideal S1 .f32) :
    out0_A_5 c arg0 harg0 arg1 harg1 arg2 harg2 arg3 harg3 arg4 harg4 arg5 harg5 arg6 harg6 x w s g = k0_pay5 (F := Ideal) x := by
  frame_out

/-- The product, as the body leaves them. -/
theorem left4 (c : Dev nD) (arg0 : Memref sig .tc .vmem S256x2880 .bf16) (harg0 : arg0.IsWhole) (arg1 : Memref sig .tc .vmem S2880x5760 .i8) (harg1 : arg1.IsWhole)
    (arg2 : Memref sig .tc .vmem S180x11520 .fp8e4m3) (harg2 : arg2.IsWhole) (arg3 : Memref sig .tc .smem S1 .f32) (harg3 : arg3.IsWhole)
    (arg4 : Memref sig .tc .vmem S256x11520 .bf16) (harg4 : arg4.IsWhole) (arg5 : Memref sig .tc .vmem S256x2880 .fp8e4m3) (harg5 : arg5.IsWhole)
    (arg6 : Memref sig .tc .vmem S256x1 .f32) (harg6 : arg6.IsWhole)
    (x : Vec Ideal S256x2880 .bf16) (w : Vec Ideal S2880x5760 .i8) (s : Vec Ideal S180x11520 .fp8e4m3) (g : Vec Ideal S1 .f32) :
    out0_A_4 c arg0 harg0 arg1 harg1 arg2 harg2 arg3 harg3 arg4 harg4 arg5 harg5 arg6 harg6 x w s g = product x w s (g (ValueIdx.ix1 0)) := by
  frame_out
  have e (i) : View.ld g (Rect.unit ![0] ![1] inb_S1_S1_0) i = g (ValueIdx.ix1 0) := single g _ _
  rw [e]
  rfl

/-- The activations' scales. -/
theorem final6 (c : Dev nD) : (dats m 0 c).arrAt 6 cfg0.N = k0_pay4 (F := Ideal) (V m c main_v0) := by
  refine (dats m 0 c).arrAt_eq_of_covers 6 _ (by decide +kernel) fun t hf y => ?_
  have e : (dats m 0 c).after 6 t = k0_pay4 (F := Ideal) (V m c main_v0) := by
    rw [after0_6]
    unfold outsAt0
    dsimp only
    rw [left6, iblk_x]
  rw [e]
  blk_ext [idx t]

/-- The codes. -/
theorem final5 (c : Dev nD) : (dats m 0 c).arrAt 5 cfg0.N = k0_pay5 (F := Ideal) (V m c main_v0) := by
  refine (dats m 0 c).arrAt_eq_of_covers 5 _ (by decide +kernel) fun t hf y => ?_
  have e : (dats m 0 c).after 5 t = k0_pay5 (F := Ideal) (V m c main_v0) := by
    rw [after0_5]
    unfold outsAt0
    dsimp only
    rw [left5, iblk_x]
  rw [e]
  blk_ext [idx t]

/-- The product. -/
theorem final4 (c : Dev nD) : (dats m 0 c).arrAt 4 cfg0.N = product (V m c main_v0) (V m c main_arg1) (V m c main_arg2) ((V m c main_v1 : Vec Ideal S1 .f32) (ValueIdx.ix1 0)) := by
  refine (dats m 0 c).arrAt_eq_of_covers 4 _ (by decide +kernel) fun t hf y => ?_
  have e : (dats m 0 c).after 4 t = product (V m c main_v0) (V m c main_arg1) (V m c main_arg2) ((V m c main_v1 : Vec Ideal S1 .f32) (ValueIdx.ix1 0)) := by
    rw [after0_4]
    unfold outsAt0
    dsimp only
    rw [left4, iblk_x, iblk_w, iblk_s, iblk_g]
  rw [e]
  blk_ext [idx t]

end Cert.ReferenceIdeal.Result

end
-- ==== Proof.Exponent.lean ====
module

public import Idealize.ShloMosaic.Lib.Pointwise
public import Idealize.ShloMosaic.Lib.IndicatorCount
public import Mathlib.Analysis.SpecialFunctions.Log.Basic

/-! The exponent of a row's scale. The kernel counts the powers of two that a row's largest magnitude (divided by the
largest code) reaches and places the count in the exponent field of an f32; the reference takes the floor of a base-two
logarithm and raises two to it. The two agree on every value below `2 ^ 126` and on infinity. -/

@[expose] public section

set_option maxRecDepth 16384

noncomputable section

namespace Cert.Exponent

open Idealize.ShloMosaic

/-- An f32 word made of an exponent field alone: its sign, its field and its fraction. -/
theorem word_parts : ∀ n : Fin 256, ((BitVec.ofNat 32 n.val <<< 23).extractLsb' 31 1 == 1#1) = false ∧
    ((BitVec.ofNat 32 n.val <<< 23).extractLsb' 23 8).toNat = n.val ∧
    ((BitVec.ofNat 32 n.val <<< 23).extractLsb' 0 23).toNat = 0 := by decide +kernel

/-- An exponent field of 1 to 254 alone denotes a power of two. -/
theorem ofBits_power (n : ℕ) (h1 : 1 ≤ n) (h2 : n ≤ 254) :
    Ideal.ofBits .f32 (BitVec.ofNat 32 n <<< 23) = (((2 : ℝ) ^ ((n : ℤ) - 127) : ℝ) : EReal) := by
  obtain ⟨hs, he, hf⟩ := word_parts ⟨n, by omega⟩
  show Ideal.ieee 8 23 (BitVec.ofNat 32 n <<< 23) = _
  unfold Ideal.ieee
  simp only [] at hs he hf ⊢
  rw [show (8 + 23 : ℕ) = 31 from rfl, hs, he, hf, if_neg (by omega), if_neg (by omega)]
  have e : ((n : ℤ) - (2 ^ (8 - 1) - 1) - (23 : ℕ)) = ((n : ℤ) - 127) - 23 := by norm_num
  rw [e, zpow_sub₀ (by norm_num : (2 : ℝ) ≠ 0)]
  refine congrArg ((↑) : ℝ → EReal) ?_
  have h23 : (2 : ℝ) ^ (23 : ℤ) = 8388608 := by norm_num
  rw [h23, if_neg (by decide)]
  push_cast
  norm_num
  field_simp

/-- The exponent field of ones alone denotes infinity. -/
theorem ofBits_top : Ideal.ofBits .f32 (BitVec.ofNat 32 255 <<< 23) = ⊤ := by
  obtain ⟨hs, he, hf⟩ := word_parts ⟨255, by omega⟩
  show Ideal.ieee 8 23 (BitVec.ofNat 32 255 <<< 23) = _
  unfold Ideal.ieee
  simp only [] at hs he hf ⊢
  rw [show (8 + 23 : ℕ) = 31 from rfl, hs, he, hf, if_pos (by norm_num), if_pos rfl, if_neg (by simp)]

/-- The word the kernel compares with at lane `k`. -/
def power (k : ℕ) : EReal :=
  Ideal.ofBits .f32 (IntOp.shli ArithUnit.vector (IntOp.addi (BitVec.ofNat 32 k) 1#32) 23#32)

theorem power_eq (k : ℕ) : power k = Ideal.ofBits .f32 (BitVec.ofNat 32 (k + 1) <<< 23) := by
  have : IntOp.addi (BitVec.ofNat 32 k) 1#32 = BitVec.ofNat 32 (k + 1) := by
    show BitVec.ofNat 32 k + BitVec.ofNat 32 1 = _
    rw [BitVec.ofNat_add]
  unfold power
  rw [this]
  rfl

/-- How many of the 255 powers a value reaches, as the kernel counts them. -/
def field (v : EReal) : BitVec 32 :=
  Finset.fold IntOp.addi (0#32) (fun k : Fin 255 => BitVec.setWidth 32 (BitVec.ofBool (decide (power k.val ≤ v)))) Finset.univ

theorem field_eq (v : EReal) : field v = BitVec.ofNat 32 (Finset.univ.filter fun k : Fin 255 => power k.val ≤ v).card := by
  unfold field
  rw [IndicatorCount.fold_addi_setWidth_eq_card]
  congr 2
  refine Finset.filter_congr fun k _ => ?_
  by_cases h : power k.val ≤ v <;> simp [h]

/-- The kernel's exponent: the field less 126, and 0 for the two fields that are no exponent. -/
def expK (v : EReal) : BitVec 32 :=
  Scalar.select (IntOp.ori (IntOp.cmpi .eq (field v) 0#32) (IntOp.cmpi .eq (field v) 255#32)) 0#32 (IntOp.subi (field v) 126#32)

/-- The reference's exponent: one above the floor of the base-two logarithm, and 0 outside the normal numbers. -/
def expR (v : EReal) : EReal :=
  Scalar.select (IntOp.andi (BitVec.ofBool (decide (Ideal.ofBits .f32 8388608#32 ≤ v)))
      (BitVec.ofBool (decide (v < Ideal.ofBits .f32 2139095040#32))))
    (Ideal.liftRound Int.floor (Ideal.div (Ideal.log v) ((Real.log 2 : ℝ) : EReal)) + 1) 0

theorem lowest_eq : Ideal.ofBits .f32 8388608#32 = (((2 : ℝ) ^ (-126 : ℤ) : ℝ) : EReal) := by
  have := ofBits_power 1 le_rfl (by norm_num)
  rw [show (BitVec.ofNat 32 1 <<< 23 : BitVec 32) = 8388608#32 by decide] at this
  rw [this]; norm_num

theorem highest_eq : Ideal.ofBits .f32 2139095040#32 = ⊤ := by
  rw [← ofBits_top, show (BitVec.ofNat 32 255 <<< 23 : BitVec 32) = 2139095040#32 by decide]

/-- A power of two is at most a number exactly when its exponent is at most the floor of the number's base-two logarithm. -/
theorem power_le_iff {r : ℝ} (hr : 0 < r) (j : ℤ) : (2 : ℝ) ^ j ≤ r ↔ j ≤ ⌊Real.log r / Real.log 2⌋ := by
  rw [Int.le_floor, le_div_iff₀ (Real.log_pos (by norm_num)), ← Real.log_zpow, Real.log_le_log_iff (by positivity) hr]

/-- The two exponents are one integer, between -125 and 126. -/
theorem exponents (v : EReal) (hv : v = ⊤ ∨ ∃ r : ℝ, v = r ∧ 0 ≤ r ∧ r < 2 ^ 126) :
    ∃ n : ℕ, 1 ≤ n ∧ n ≤ 252 ∧ expK v = BitVec.ofNat 32 n - 126#32 ∧ expR v = ((((n : ℤ) - 126 : ℤ) : ℝ) : EReal) := by
  rcases hv with rfl | ⟨r, rfl, h0, hlt⟩
  · refine ⟨126, by norm_num, by norm_num, ?_, ?_⟩
    · have hf : field ⊤ = 255#32 := by
        rw [field_eq, Finset.filter_true_of_mem (fun _ _ => le_top)]; rfl
      unfold expK
      rw [hf]; decide
    · unfold expR
      rw [highest_eq]
      have : decide ((⊤ : EReal) < ⊤) = false := by simp
      rw [this]
      have h2 : ∀ b : BitVec 1, IntOp.andi b (BitVec.ofBool false) = 0#1 := by decide
      rw [h2]
      simp [Scalar.select]
  · by_cases hn : (2 : ℝ) ^ (-126 : ℤ) ≤ r
    · have hpos : 0 < r := lt_of_lt_of_le (by positivity) hn
      have hlo : -126 ≤ ⌊Real.log r / Real.log 2⌋ := (power_le_iff hpos _).1 hn
      have hhi : ⌊Real.log r / Real.log 2⌋ < 126 := by
        by_contra h
        exact absurd ((power_le_iff hpos 126).2 (not_lt.1 h)) (not_le.2 (by exact_mod_cast hlt))
      obtain ⟨n, hnn⟩ : ∃ n : ℕ, (n : ℤ) = ⌊Real.log r / Real.log 2⌋ + 127 := ⟨(⌊Real.log r / Real.log 2⌋ + 127).toNat, by omega⟩
      refine ⟨n, by omega, by omega, ?_, ?_⟩
      · have hf : field (r : EReal) = BitVec.ofNat 32 n := by
          rw [field_eq]
          have : (Finset.univ.filter fun k : Fin 255 => power k.val ≤ (r : EReal)) = Finset.univ.filter fun k : Fin 255 => k.val < n := by
            refine Finset.filter_congr fun k _ => ?_
            rw [power_eq]
            by_cases hk : k.val = 254
            · rw [hk, ofBits_top]
              constructor
              · intro h; exact absurd (top_le_iff.1 h) (EReal.coe_ne_top r)
              · intro h; omega
            · rw [ofBits_power _ (by omega) (by have := k.isLt; omega), EReal.coe_le_coe_iff]
              rw [power_le_iff hpos]
              omega
          rw [this, Fin.card_filter_val_lt]
          congr 1; omega
        unfold expK
        rw [hf]
        have hsel : IntOp.ori (IntOp.cmpi .eq (BitVec.ofNat 32 n) 0#32) (IntOp.cmpi .eq (BitVec.ofNat 32 n) 255#32) = 0#1 := by
          have h1 : BitVec.ofNat 32 n ≠ 0#32 := by
            intro h; have := congrArg BitVec.toNat h; simp at this; omega
          have h2 : BitVec.ofNat 32 n ≠ 255#32 := by
            intro h; have := congrArg BitVec.toNat h; simp at this; omega
          simp [IntOp.cmpi, IntOp.ori, beq_eq_false_iff_ne.2 h1, beq_eq_false_iff_ne.2 h2]
        rw [hsel]; rfl
      · unfold expR
        rw [lowest_eq, highest_eq, decide_eq_true (EReal.coe_le_coe_iff.2 hn), decide_eq_true (EReal.coe_lt_top r)]
        have hl : Ideal.log (r : EReal) = ((Real.log r : ℝ) : EReal) := by
          show (if r ≤ 0 then (⊥ : EReal) else (Real.log r : EReal)) = _
          rw [if_neg (not_le.2 hpos)]
        have hlog2 : Real.log 2 ≠ 0 := (Real.log_pos (by norm_num)).ne'
        have hd : Ideal.div ((Real.log r : ℝ) : EReal) ((Real.log 2 : ℝ) : EReal) = ((Real.log r / Real.log 2 : ℝ) : EReal) := by
          unfold Ideal.div
          rw [if_neg (by exact_mod_cast hlog2), ← EReal.coe_inv, ← EReal.coe_mul, div_eq_mul_inv]
        rw [hl, hd]
        show ((⌊Real.log r / Real.log 2⌋ : ℝ) : EReal) + 1 = _
        rw [show (1 : EReal) = ((1 : ℝ) : EReal) from rfl, ← EReal.coe_add]
        congr 1
        have : ⌊Real.log r / Real.log 2⌋ = (n : ℤ) - 127 := by omega
        rw [this]; push_cast; ring
    · refine ⟨126, by norm_num, by norm_num, ?_, ?_⟩
      · have hf : field (r : EReal) = 0#32 := by
          rw [field_eq, Finset.filter_false_of_mem, Finset.card_empty]
          intro k _
          rw [power_eq]
          by_cases hk : k.val = 254
          · rw [hk, ofBits_top]; intro h; exact absurd (top_le_iff.1 h) (EReal.coe_ne_top r)
          · rw [ofBits_power _ (by omega) (by have := k.isLt; omega), EReal.coe_le_coe_iff]
            intro h
            refine hn (le_trans ?_ h)
            exact zpow_le_zpow_right₀ (by norm_num) (by push_cast; omega)
        unfold expK
        rw [hf]; decide
      · unfold expR
        rw [lowest_eq, decide_eq_false (by rw [EReal.coe_le_coe_iff]; exact hn)]
        have h2 : ∀ b : BitVec 1, IntOp.andi (BitVec.ofBool false) b = 0#1 := by decide
        rw [h2]
        simp [Scalar.select]

/-- The scale: the kernel's word and the reference's power of two. -/
theorem scale (v : EReal) (hv : v = ⊤ ∨ ∃ r : ℝ, v = r ∧ 0 ≤ r ∧ r < 2 ^ 126) :
    Ideal.ofBits .f32 (IntOp.shli ArithUnit.vector (IntOp.addi 127#32 (expK v)) 23#32) = Ideal.exp2 (expR v) := by
  obtain ⟨n, h1, h2, hk, hr⟩ := exponents v hv
  have hw : IntOp.shli ArithUnit.vector (IntOp.addi 127#32 (BitVec.ofNat 32 n - 126#32)) 23#32 = BitVec.ofNat 32 (n + 1) <<< 23 := by
    have : IntOp.addi 127#32 (BitVec.ofNat 32 n - 126#32) = BitVec.ofNat 32 (n + 1) := by
      apply BitVec.eq_of_toNat_eq
      simp [IntOp.addi]; omega
    rw [this]; rfl
  rw [hk, hr, hw, ofBits_power _ (by omega) (by omega)]
  show _ = ((Real.rpow 2 (((n : ℤ) - 126 : ℤ) : ℝ) : ℝ) : EReal)
  congr 1
  rw [show Real.rpow 2 (((n : ℤ) - 126 : ℤ) : ℝ) = (2 : ℝ) ^ (((n : ℤ) - 126 : ℤ) : ℝ) from rfl, Real.rpow_intCast]
  congr 1; push_cast; ring

/-- The scale's inverse: the kernel's word and the reference's power of two. -/
theorem inverse (v : EReal) (hv : v = ⊤ ∨ ∃ r : ℝ, v = r ∧ 0 ≤ r ∧ r < 2 ^ 126) :
    Ideal.ofBits .f32 (IntOp.shli ArithUnit.vector (IntOp.subi 127#32 (expK v)) 23#32) = Ideal.exp2 (0 - expR v) := by
  obtain ⟨n, h1, h2, hk, hr⟩ := exponents v hv
  have hw : IntOp.shli ArithUnit.vector (IntOp.subi 127#32 (BitVec.ofNat 32 n - 126#32)) 23#32 = BitVec.ofNat 32 (253 - n) <<< 23 := by
    have : IntOp.subi 127#32 (BitVec.ofNat 32 n - 126#32) = BitVec.ofNat 32 (253 - n) := by
      apply BitVec.eq_of_toNat_eq
      simp [IntOp.subi]; omega
    rw [this]; rfl
  rw [hk, hr, hw, ofBits_power _ (by omega) (by omega), zero_sub, ← EReal.coe_neg]
  show _ = ((Real.rpow 2 (-(((n : ℤ) - 126 : ℤ) : ℝ)) : ℝ) : EReal)
  congr 1
  rw [show Real.rpow 2 (-(((n : ℤ) - 126 : ℤ) : ℝ)) = (2 : ℝ) ^ (((-((n : ℤ) - 126) : ℤ)) : ℝ) by push_cast; rfl, Real.rpow_intCast]
  congr 1
  omega

end Cert.Exponent
-- ==== Proof.Quantise.lean ====
module

public import proofs.«01_k».proof.Proof.Gen.KernelIdeal.Skeleton
public import proofs.«01_k».proof.Proof.Gen.ReferenceIdeal.Skeleton
public import proofs.«01_k».proof.Proof.Exponent
public import Idealize.ShloMosaic.PureOps.IdealRules

/-! The quantised activations: on bf16 numbers the kernel's scales and codes are the reference's. -/

@[expose] public section

set_option maxRecDepth 16384

noncomputable section

namespace Cert.Quantise

open Idealize.ShloMosaic Idealize.ShloMosaic.TcCoe Cert.Exponent

/-- A value a bf16 word denotes is at most the largest finite bf16 number in magnitude, or an infinity. -/
def Bounded (a : EReal) : Prop :=
  max a (-a) ≤ Ideal.ofBits .f32 0x7F7F0000#32 ∨ max a (-a) = Ideal.ofBits .f32 0x7F800000#32

/-- The largest finite bf16 number. -/
theorem largest_eq : Ideal.ofBits .f32 0x7F7F0000#32 = ((16711680 * (2 : ℝ) ^ (104 : ℤ) : ℝ) : EReal) := by
  show Ideal.ieee 8 23 0x7F7F0000#32 = _
  unfold Ideal.ieee
  rw [show ((0x7F7F0000#32).extractLsb' 23 8).toNat = 254 by decide, show ((0x7F7F0000#32).extractLsb' 0 23).toNat = 8323072 by decide,
    show ((0x7F7F0000#32).extractLsb' (8 + 23) 1 == 1#1) = false by decide]
  simp only []
  rw [if_neg (by norm_num), if_neg (by norm_num), if_neg (by decide)]
  refine congrArg ((↑) : ℝ → EReal) ?_
  norm_num

/-- The reciprocal of the largest code, as both programs write it. -/
theorem recip_eq : Ideal.ofBits .f32 991054117#32 = ((9586981 * (2 : ℝ) ^ (-32 : ℤ) : ℝ) : EReal) := by
  show Ideal.ieee 8 23 991054117#32 = _
  unfold Ideal.ieee
  rw [show ((991054117#32).extractLsb' 23 8).toNat = 118 by decide, show ((991054117#32).extractLsb' 0 23).toNat = 1198373 by decide,
    show ((991054117#32).extractLsb' (8 + 23) 1 == 1#1) = false by decide]
  simp only []
  rw [if_neg (by norm_num), if_neg (by norm_num), if_neg (by decide)]
  refine congrArg ((↑) : ℝ → EReal) ?_
  norm_num

/-- The initial value of a row's maximum. -/
theorem bottom_eq : Ideal.ofBits .f32 4286578688#32 = ⊥ := by
  show Ideal.ieee 8 23 4286578688#32 = _
  unfold Ideal.ieee
  rw [show ((4286578688#32).extractLsb' 23 8).toNat = 255 by decide, show ((4286578688#32).extractLsb' 0 23).toNat = 0 by decide,
    show ((4286578688#32).extractLsb' (8 + 23) 1 == 1#1) = true by decide]
  rfl

/-- A row's largest magnitude, divided by the largest code. -/
def rowV (x : (⟨2, ![256, 2880]⟩ : Shape).Idx → EReal) (r : Fin 256) : EReal :=
  Finset.fold max (Ideal.ofBits .f32 4286578688#32) (fun k : Fin 2880 => max (x (ix2 r k)) (-(x (ix2 r k)))) Finset.univ *
    Ideal.ofBits .f32 991054117#32

/-- On bf16 numbers it is infinite, or non-negative and below `2 ^ 126`. -/
theorem rowV_range (x : (⟨2, ![256, 2880]⟩ : Shape).Idx → EReal) (r : Fin 256) (hx : ∀ i, Bounded (x i)) :
    rowV x r = ⊤ ∨ ∃ v : ℝ, rowV x r = v ∧ 0 ≤ v ∧ v < 2 ^ 126 := by
  unfold rowV
  rw [bottom_eq, recip_eq]
  set M := Finset.fold max ⊥ (fun k : Fin 2880 => max (x (ix2 r k)) (-(x (ix2 r k)))) Finset.univ with hM
  have h0 : 0 ≤ M := by
    rw [hM, Finset.le_fold_max]
    refine Or.inr ⟨0, Finset.mem_univ _, ?_⟩
    rcases le_total 0 (x (ix2 r 0)) with h | h
    · exact le_max_of_le_left h
    · exact le_max_of_le_right (by simpa using EReal.neg_le_neg_iff.2 h)
  have hM' : M = ⊤ ∨ M ≤ ((16711680 * (2 : ℝ) ^ (104 : ℤ) : ℝ) : EReal) := by
    by_cases h : ∃ k : Fin 2880, max (x (ix2 r k)) (-(x (ix2 r k))) = ⊤
    · obtain ⟨k, hk⟩ := h
      left
      rw [← top_le_iff, hM, Finset.le_fold_max]
      exact Or.inr ⟨k, Finset.mem_univ _, hk.ge⟩
    · right
      rw [hM, Finset.fold_max_le]
      refine ⟨bot_le, fun k _ => ?_⟩
      rcases hx (ix2 r k) with h' | h'
      · rwa [largest_eq] at h'
      · exact absurd ⟨k, by rw [h']; exact highest_eq⟩ h
  rcases hM' with h | h
  · left
    rw [h]
    exact EReal.top_mul_coe_of_pos (by positivity)
  · right
    have hne : M ≠ ⊤ := fun e => by rw [e] at h; exact absurd (top_le_iff.1 h) (EReal.coe_ne_top _)
    have hnb : M ≠ ⊥ := fun e => by rw [e] at h0; exact absurd (le_bot_iff.1 h0) (by simp)
    obtain ⟨v, hv⟩ : ∃ v : ℝ, M = v := ⟨M.toReal, (EReal.coe_toReal hne hnb).symm⟩
    rw [hv] at h h0 ⊢
    refine ⟨v * (9586981 * (2 : ℝ) ^ (-32 : ℤ)), by rw [← EReal.coe_mul], ?_, ?_⟩
    · exact mul_nonneg (by exact_mod_cast h0) (by positivity)
    · have h1 : v ≤ 16711680 * (2 : ℝ) ^ (104 : ℤ) := by exact_mod_cast h
      calc v * (9586981 * (2 : ℝ) ^ (-32 : ℤ)) ≤ (16711680 * (2 : ℝ) ^ (104 : ℤ)) * (9586981 * (2 : ℝ) ^ (-32 : ℤ)) :=
            mul_le_mul_of_nonneg_right h1 (by positivity)
        _ < 2 ^ 126 := by norm_num

/-- The kernel's exponent of a row. -/
theorem kernel_exponent (x : Vec Ideal Cert.KernelIdeal.S256x2880 .bf16) (r : Fin 256) (z : Fin 1) :
    Cert.KernelIdeal.Gen.k0_pay3 (F := Ideal) x (ix2 r z) = expK (rowV x r) := by
  pointwise [Cert.KernelIdeal.Gen.k0_pay3, Cert.KernelIdeal.Gen.k0_pay2]
  rfl

/-- The reference's exponent of a row. -/
theorem reference_exponent (x : Vec Ideal Cert.KernelIdeal.S256x2880 .bf16) (r : Fin 256) (z : Fin 1) :
    Cert.ReferenceIdeal.Gen.k0_pay3 (F := Ideal) x (ix2 r z) = expR (rowV x r) := by
  pointwise [Cert.ReferenceIdeal.Gen.k0_pay3, Cert.ReferenceIdeal.Gen.k0_pay2]
  rw [IdealRules.named_const.ideal_named_scalar Cert.ReferenceIdeal.κ "log_2" _ _ rfl]
  rfl

/-- The scales agree. -/
theorem scale_eq (x : Vec Ideal Cert.KernelIdeal.S256x2880 .bf16) (hx : ∀ i, Bounded (x i)) :
    Cert.KernelIdeal.Gen.k0_pay4 (F := Ideal) x = Cert.ReferenceIdeal.Gen.k0_pay4 (F := Ideal) x := by
  funext j
  idx_vars j
  have hK : Cert.KernelIdeal.Gen.k0_pay4 (F := Ideal) x (ix2 j0 j1) =
      Ideal.ofBits .f32 (IntOp.shli ArithUnit.vector (IntOp.addi 127#32 (Cert.KernelIdeal.Gen.k0_pay3 x (ix2 j0 j1))) 23#32) := by
    pointwise [Cert.KernelIdeal.Gen.k0_pay4]
  have hR : Cert.ReferenceIdeal.Gen.k0_pay4 (F := Ideal) x (ix2 j0 j1) = Ideal.exp2 (Cert.ReferenceIdeal.Gen.k0_pay3 (F := Ideal) x (ix2 j0 j1)) := rfl
  rw [hK, hR, kernel_exponent, reference_exponent]
  exact Exponent.scale _ (rowV_range x _ hx)

/-- The codes agree. -/
theorem codes_eq (x : Vec Ideal Cert.KernelIdeal.S256x2880 .bf16) (hx : ∀ i, Bounded (x i)) :
    Cert.KernelIdeal.Gen.k0_pay7 (F := Ideal) (Cert.KernelIdeal.Gen.k0_pay5 x) Cert.KernelIdeal.Gen.k0_pay6 =
      Cert.ReferenceIdeal.Gen.k0_pay5 (F := Ideal) x := by
  funext j
  idx_vars j
  have hK : Cert.KernelIdeal.Gen.k0_pay7 (F := Ideal) (Cert.KernelIdeal.Gen.k0_pay5 x) Cert.KernelIdeal.Gen.k0_pay6 (ix2 j0 j1) =
      min (Ideal.ofBits .f32 1138753536#32) (max (Ideal.ofBits .f32 3286237184#32) (x (ix2 j0 j1) *
        Ideal.ofBits .f32 (IntOp.shli ArithUnit.vector (IntOp.subi 127#32 (Cert.KernelIdeal.Gen.k0_pay3 x (ix2 j0 0))) 23#32))) := by
    pointwise [Cert.KernelIdeal.Gen.k0_pay5, Cert.KernelIdeal.Gen.k0_pay2, Cert.KernelIdeal.Gen.k0_pay6, Cert.KernelIdeal.Gen.k0_pay7]
  have hR : Cert.ReferenceIdeal.Gen.k0_pay5 (F := Ideal) x (ix2 j0 j1) =
      min (Ideal.ofBits .f32 1138753536#32) (max (Ideal.ofBits .f32 3286237184#32) (x (ix2 j0 j1) *
        Ideal.exp2 (0 - Cert.ReferenceIdeal.Gen.k0_pay3 (F := Ideal) x (ix2 j0 0)))) := by
    pointwise [Cert.ReferenceIdeal.Gen.k0_pay5, Cert.ReferenceIdeal.Gen.k0_pay2]
    rfl
  rw [hK, hR, kernel_exponent, reference_exponent, Exponent.inverse _ (rowV_range x _ hx)]

end Cert.Quantise
-- ==== Proof.Inputs.lean ====
module

public import proofs.«01_k».proof.Proof.Gen.Pre__bf16_numbers
public import proofs.«01_k».proof.Proof.Quantise
public import Idealize.ShloMosaic.Lib.ReduceAll
public import Idealize.ShloMosaic.Lib.Pointwise

/-! What the precondition says of the activations. -/

@[expose] public section

set_option maxRecDepth 16384

noncomputable section

namespace Cert.Inputs

open Idealize.ShloMosaic Idealize.ShloMosaic.TcCoe Cert.Pre__bf16_numbers

/-- Where the precondition holds, every activation is a bf16 number or an infinity. -/
theorem bounded (x : FVec Ideal S2x128x2880 .bf16) (w : IVec S2880x5760 8) (s : FVec Ideal S180x11520 .fp8e4m3) (g : FVec Ideal S_ .f32)
    (h : fn x w s g = fun _ => 1#1) (i : S2x128x2880.Idx) : Cert.Quantise.Bounded (x i) := by
  haveI : Subsingleton S_.Idx := ⟨fun a b => funext fun k => k.elim0⟩
  have e := Host.reduce_andi_all _ _ _ _ _ (congrFun h (fun k => k.elim0)) i
  have e' : IntOp.ori (Ideal.cmp .ole (max (x i) (-(x i))) (Ideal.ofBits .f32 0x7F7F0000#32)) (Ideal.cmp .oeq (max (x i) (-(x i))) (Ideal.ofBits .f32 0x7F800000#32)) = 1#1 := e
  have holds (p : Prop) [Decidable p] (hp : BitVec.ofBool (decide p) = 1#1) : p := by
    by_contra hn
    rw [decide_eq_false hn] at hp
    exact absurd hp (by decide)
  rcases (show ∀ a b : BitVec 1, IntOp.ori a b = 1#1 → a = 1#1 ∨ b = 1#1 by decide) _ _ e' with h1 | h1
  · exact Or.inl (holds _ h1)
  · exact Or.inr (holds _ h1)

end Cert.Inputs

end
-- ==== Proof.Equation.lean ====
module

public import proofs.«01_k».proof.Proof.KValue
public import proofs.«01_k».proof.Proof.RValue
public import proofs.«01_k».proof.Proof.Quantise
public import Idealize.ShloMosaic.Lib.Claim

/-! The equation: from the same inputs the kernel's three results are the reference's. -/

@[expose] public section

set_option maxRecDepth 16384
set_option maxHeartbeats 1000000

noncomputable section

namespace Cert.Equation

open Idealize.ShloMosaic Idealize.ShloMosaic.TcCoe Cert.Quantise Cert.Product

/-- The codes the kernel multiplies are the codes it returns. -/
theorem codes_kept (x : Vec Ideal Cert.KernelIdeal.S256x2880 .bf16) (r : Fin 256) (k : Fin 2880) :
    Cert.KernelIdeal.Run.xbOf (F := Ideal) x (ix2 r k) = Cert.KernelIdeal.Run.codesOf (F := Ideal) x (ix2 r k) := by
  pointwise [Cert.KernelIdeal.Run.xbOf, Cert.KernelIdeal.Run.codesOf, Cert.KernelIdeal.Gen.k0_pay7, Cert.KernelIdeal.Gen.k0_pay8]

/-- The products agree. -/
theorem product_eq (x : Vec Ideal Cert.KernelIdeal.S256x2880 .bf16) (hx : ∀ i, Bounded (x i)) (w : Vec Ideal Cert.KernelIdeal.S2880x5760 .i8)
    (s : Vec Ideal Cert.KernelIdeal.S180x11520 .fp8e4m3) (g : EReal) :
    Cert.KernelIdeal.Result.product x w s g = Cert.ReferenceIdeal.Result.product x w s g := by
  funext j
  idx_vars j
  refine Eq.trans ?_ (reference_apply w s _ _ g j0 j1 _ rfl).symm
  have e : (fun k => Cert.KernelIdeal.Run.xbOf (F := Ideal) x (ix2 j0 k)) = fun k => Cert.ReferenceIdeal.Gen.k0_pay5 (F := Ideal) x (ix2 j0 k) :=
    funext fun k => (codes_kept x j0 k).trans (congrFun (codes_eq x hx) _)
  have e' : Cert.KernelIdeal.Gen.k0_pay4 (F := Ideal) x (ix2 j0 0) = Cert.ReferenceIdeal.Gen.k0_pay4 (F := Ideal) x (ix2 j0 0) := congrFun (scale_eq x hx) _
  exact congr (congrArg (fun a b => entry a (fun k => w (ix2 k ⟨j1.val / 2, by omega⟩)) (j1.val % 2) (fun q => s (ix2 q j1)) b g) e) e'

section Arrays

/-- The activations and the global scale as the kernel's windows find them: the arguments, reshaped. -/
theorem kernel_x (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v1 =
      shapeCast Cert.KernelIdeal.S256x2880 (m ((c.tc : Thread Cert.KernelIdeal.nD Cert.KernelIdeal.τ).loc Cert.KernelIdeal.main_arg0)) Cert.KernelIdeal.Gen.shapeCasts_S2x128x2880_S256x2880 := by
  entry_read
  rfl
theorem kernel_g (m : (ℓ : Loc Cert.KernelIdeal.nD Cert.KernelIdeal.τ Cert.KernelIdeal.sig) → Buf (Elt Ideal) ℓ) (c : Dev Cert.KernelIdeal.nD) :
    Cert.KernelIdeal.Gen.V m c Cert.KernelIdeal.main_v0 =
      shapeCast Cert.KernelIdeal.S1 (m ((c.tc : Thread Cert.KernelIdeal.nD Cert.KernelIdeal.τ).loc Cert.KernelIdeal.main_arg3)) Cert.KernelIdeal.Gen.shapeCasts_S_S1 := by
  entry_read
  rfl
/-- The same for the reference's. -/
theorem reference_x (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v0 =
      shapeCast Cert.ReferenceIdeal.S256x2880 (m ((c.tc : Thread Cert.ReferenceIdeal.nD Cert.ReferenceIdeal.τ).loc Cert.ReferenceIdeal.main_arg0)) Cert.ReferenceIdeal.Gen.shapeCasts_S2x128x2880_S256x2880 := by
  entry_read
  rfl
theorem reference_g (m : (ℓ : Loc Cert.ReferenceIdeal.nD Cert.ReferenceIdeal.τ Cert.ReferenceIdeal.sig) → Buf (Elt Ideal) ℓ) (c : Dev Cert.ReferenceIdeal.nD) :
    Cert.ReferenceIdeal.Gen.V m c Cert.ReferenceIdeal.main_v1 =
      shapeCast Cert.ReferenceIdeal.S1 (m ((c.tc : Thread Cert.ReferenceIdeal.nD Cert.ReferenceIdeal.τ).loc Cert.ReferenceIdeal.main_arg3)) Cert.ReferenceIdeal.Gen.shapeCasts_S_S1 := by
  entry_read
  rfl

end Arrays

end Cert.Equation

end
-- ==== Proof.lean ====
module

public import proofs.«01_k».proof.Defs
public import proofs.«01_k».proof.Proof.Gen.Kernel
public import proofs.«01_k».proof.Proof.KernelFrame
public import proofs.«01_k».proof.Proof.KValue
public import proofs.«01_k».proof.Proof.RValue
public import proofs.«01_k».proof.Proof.Inputs
public import proofs.«01_k».proof.Proof.Equation
public import proofs.«01_k».proof.Proof.Gen.ReferenceIdeal.Frame
public import proofs.«01_k».proof.Proof.Gen.ReferenceIdeal.Value
public import proofs.«01_k».proof.Proof.Gen.Pre__bf16_numbers

/-! The certificate: the frames, and the equation of the kernel's results and the reference's. -/

@[expose] public section

set_option maxRecDepth 16384
set_option maxHeartbeats 1000000

noncomputable section

namespace Cert.Proof

open Idealize.ShloMosaic Idealize.ShloMosaic.TcCoe Idealize.SL.Sem Cert.Quantise Cert.Equation

/-- From arguments that agree, and activations that are bf16 numbers, the kernel's three results are the reference's. -/
theorem algebraic : Cert.algebraic_KernelIdeal_ReferenceIdeal_pre__bf16_numbers := by
  intro m g m' g' hpre hargs
  have hx (c : Dev Cert.KernelIdeal.nD) : ∀ i, Bounded ((Cert.KernelIdeal.Gen.V m c Cert.KernelIdeal.main_v1 : Vec Ideal Cert.KernelIdeal.S256x2880 .bf16) i) := by
    intro i
    rw [kernel_x]
    exact Cert.Inputs.bounded _ _ _ _ (hpre c) _
  have ex (c : Dev Cert.KernelIdeal.nD) : (Cert.ReferenceIdeal.Gen.V m' c Cert.ReferenceIdeal.main_v0 : Vec Ideal Cert.KernelIdeal.S256x2880 .bf16) =
      Cert.KernelIdeal.Gen.V m c Cert.KernelIdeal.main_v1 := by
    rw [kernel_x, reference_x, (hargs c).1]
  have eg (c : Dev Cert.KernelIdeal.nD) : (Cert.ReferenceIdeal.Gen.V m' c Cert.ReferenceIdeal.main_v1 : Vec Ideal Cert.KernelIdeal.S1 .f32) =
      Cert.KernelIdeal.Gen.V m c Cert.KernelIdeal.main_v0 := by
    rw [kernel_g, reference_g, (hargs c).2.2.2]
  have ew (c : Dev Cert.KernelIdeal.nD) : (Cert.ReferenceIdeal.Gen.V m' c Cert.ReferenceIdeal.main_arg1 : Vec Ideal Cert.KernelIdeal.S2880x5760 .i8) =
      Cert.KernelIdeal.Gen.V m c Cert.KernelIdeal.main_arg1 := by
    rw [Cert.KernelIdeal.Gen.V_main_arg1, Cert.ReferenceIdeal.Gen.V_main_arg1, (hargs c).2.1]
  have es (c : Dev Cert.KernelIdeal.nD) : (Cert.ReferenceIdeal.Gen.V m' c Cert.ReferenceIdeal.main_arg2 : Vec Ideal Cert.KernelIdeal.S180x11520 .fp8e4m3) =
      Cert.KernelIdeal.Gen.V m c Cert.KernelIdeal.main_arg2 := by
    rw [Cert.KernelIdeal.Gen.V_main_arg2, Cert.ReferenceIdeal.Gen.V_main_arg2, (hargs c).2.2.1]
  refine ⟨_, _, _, Cert.KernelIdeal.Result.run m g, ?_⟩
  refine (θ_run _ _ _).mono (fun r h c => ?_) (Cert.ReferenceIdeal.Value.run_blocks (F := Ideal) m' g')
  obtain ⟨h0, h1, h2, ha⟩ := h c
  refine ⟨h0.trans ?_, h1.trans ?_, h2.trans ?_, ha⟩
  · refine (Cert.ReferenceIdeal.Result.final4 m' c).trans ?_
    rw [ex, ew, es, eg]
    exact (product_eq _ (hx c) _ _ _).symm
  · refine (Cert.ReferenceIdeal.Result.final5 m' c).trans ?_
    rw [ex]
    exact (codes_eq _ (hx c)).symm
  · refine (Cert.ReferenceIdeal.Result.final6 m' c).trans ?_
    rw [ex]
    exact (scale_eq _ (hx c)).symm

/-- Everything claimed. -/
theorem claim : Cert.Claim :=
  ⟨Cert.Kernel.Gen.facts, Cert.KernelIdeal.Gen.facts, Cert.ReferenceIdeal.Gen.facts, Cert.Pre__bf16_numbers.Gen.facts,
    Cert.KernelFrame.quiescent, fun m g _ => Cert.KernelIdeal.Run.frame m g, fun m g _ => Cert.KernelIdeal.Run.frame m g,
    fun m g _ => Cert.ReferenceIdeal.Gen.frame m g, fun m g _ => Cert.ReferenceIdeal.Gen.frame m g, trivial, algebraic⟩

end Cert.Proof

end
